-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .bf16) (main_arg1 : FVec F S256x16 .bf16) (main_arg2 : IVec S1024x2 32) (main_arg3 : FVec F S4x256x512 .bf16) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x256 .bf16 := Host.absf main_arg0
  let main_cst : FVec F S_ .bf16 := constant S_ .bf16 0x7F80#16
  let main_v7 : FVec F S1024x256 .bf16 := broadcastInDim S1024x256 ![] bcast_S_S1024x256 main_cst
  let main_v8 : IVec S1024x256 1 := cmpf .olt main_v6 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v5 main_v9
  let main_v11 : FVec F S256x16 .bf16 := Host.absf main_arg1
  let main_cst_3 : FVec F S_ .bf16 := constant S_ .bf16 0x7F80#16
  let main_v12 : FVec F S256x16 .bf16 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Pre_routable_ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .bf16) (main_arg1 : FVec F S256x16 .bf16) (main_arg2 : IVec S1024x2 32) (main_arg3 : FVec F S16x256x512 .bf16) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x256 .bf16 := Host.absf main_arg0
  let main_cst : FVec F S_ .bf16 := constant S_ .bf16 0x7F80#16
  let main_v7 : FVec F S1024x256 .bf16 := broadcastInDim S1024x256 ![] bcast_S_S1024x256 main_cst
  let main_v8 : IVec S1024x256 1 := cmpf .olt main_v6 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v5 main_v9
  let main_v11 : FVec F S256x16 .bf16 := Host.absf main_arg1
  let main_cst_3 : FVec F S_ .bf16 := constant S_ .bf16 0x7F80#16
  let main_v12 : FVec F S256x16 .bf16 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Kernel.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S1024x512 : Shape := ⟨2, ![1024, 512]⟩
abbrev S3x256x512 : Shape := ⟨3, ![3, 256, 512]⟩
abbrev S256x512 : Shape := ⟨2, ![256, 512]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S16x4 : Shape := ⟨2, ![16, 4]⟩
abbrev S1024x4 : Shape := ⟨2, ![1024, 4]⟩
abbrev S1x256x512 : Shape := ⟨3, ![1, 256, 512]⟩
abbrev S256x1 : Shape := ⟨2, ![256, 1]⟩
abbrev S256x256 : Shape := ⟨2, ![256, 256]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x2, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S256x16, .bf16⟩
  | .local _ .vmem, ⟨2, _⟩ => ⟨S1024x2, .i32⟩
  | .local _ .vmem, ⟨3, _⟩ => ⟨S4x256x512, .bf16⟩
  | .local _ .vmem, ⟨4, _⟩ => ⟨S1024x512, .f32⟩
  | .local _ .vmem, ⟨5, _⟩ => ⟨S4x256x512, .bf16⟩
  | .local _ .vmem, ⟨6, _⟩ => ⟨S3x256x512, .bf16⟩
  | .local _ .vmem, ⟨7, _⟩ => ⟨S256x512, .bf16⟩
  | .local _ .vmem, ⟨8, _⟩ => ⟨S3x256x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_67 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v180 : BitVec 32 := Scalar.addi v2 c1_i32_67
  let c4_i32_68 : BitVec 32 := 4#32
  let v181 : BitVec 32 := Scalar.remsi v180 c4_i32_68
  let c0_i32_76 : BitVec 32 := 0#32
  let c0_i32_77 : BitVec 32 := 0#32
  ![v181.toNat, 0, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v180 : BitVec 32 := Scalar.addi v2 c1_i32_67
  let c4_i32_68 : BitVec 32 := 4#32
  let v181 : BitVec 32 := Scalar.remsi v180 c4_i32_68
  let c1_i32_72 : BitVec 32 := 1#32
  let v182 : BitVec 32 := Scalar.muli v181 c1_i32_72
  let v183 : BitVec 32 := Scalar.addi c0_i32_73 v182
  v183.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_78 : BitVec 32 := 2#32
  let v192 : BitVec 32 := Scalar.addi v2 c2_i32_78
  let c4_i32_79 : BitVec 32 := 4#32
  let v193 : BitVec 32 := Scalar.remsi v192 c4_i32_79
  let c1_i32_83 : BitVec 32 := 1#32
  let v194 : BitVec 32 := Scalar.muli v193 c1_i32_83
  let v195 : BitVec 32 := Scalar.addi c0_i32_84 v194
  v195.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_89 : BitVec 32 := 3#32
  let v204 : BitVec 32 := Scalar.addi v2 c3_i32_89
  let c4_i32_90 : BitVec 32 := 4#32
  let v205 : BitVec 32 := Scalar.remsi v204 c4_i32_90
  let c1_i32_94 : BitVec 32 := 1#32
  let v206 : BitVec 32 := Scalar.muli v205 c1_i32_94
  let v207 : BitVec 32 := Scalar.addi c0_i32_95 v206
  v207.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v216 : Index := Scalar.indexCast v2
  let c0_100 : Index := 0#32
  let c0_101 : Index := 0#32
  ![v216.toNat, 0, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v256 : BitVec 32 := Scalar.muli v2 c256_i32
  let v257 : Index := Scalar.indexCast v256
  let c0_141 : Index := 0#32
  ![v257.toNat, 0]
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_144 : BitVec 32 := 1#32
  let v263 : BitVec 32 := Scalar.addi v2 c1_i32_144
  let c4_i32_145 : BitVec 32 := 4#32
  let v264 : BitVec 32 := Scalar.remsi v263 c4_i32_145
  let c1_i32_149 : BitVec 32 := 1#32
  let v265 : BitVec 32 := Scalar.muli v264 c1_i32_149
  let v266 : BitVec 32 := Scalar.addi c0_i32_150 v265
  v266.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_153 : BitVec 32 := 2#32
  let v273 : BitVec 32 := Scalar.addi v2 c2_i32_153
  let c4_i32_154 : BitVec 32 := 4#32
  let v274 : BitVec 32 := Scalar.remsi v273 c4_i32_154
  let c1_i32_158 : BitVec 32 := 1#32
  let v275 : BitVec 32 := Scalar.muli v274 c1_i32_158
  let v276 : BitVec 32 := Scalar.addi c0_i32_159 v275
  v276.toNat
def k0_dev9 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_162 : BitVec 32 := 3#32
  let v283 : BitVec 32 := Scalar.addi v2 c3_i32_162
  let c4_i32_163 : BitVec 32 := 4#32
  let v284 : BitVec 32 := Scalar.remsi v283 c4_i32_163
  let c1_i32_167 : BitVec 32 := 1#32
  let v285 : BitVec 32 := Scalar.muli v284 c1_i32_167
  let v286 : BitVec 32 := Scalar.addi c0_i32_168 v285
  v286.toNat
def k0_off4 (d0 : Dev nD) (c1_i32_171 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v293 : BitVec 32 := Scalar.addi v2 c1_i32_171
  let c4_i32_172 : BitVec 32 := 4#32
  let v294 : BitVec 32 := Scalar.remsi v293 c4_i32_172
  let c256_i32_183 : BitVec 32 := 256#32
  let v304 : BitVec 32 := Scalar.muli v294 c256_i32_183
  let v305 : Index := Scalar.indexCast v304
  let c0_184 : Index := 0#32
  ![v305.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩

abbrev nBuf : Space → Nat
  | .hbm => 97
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x2, .i32⟩
  | .hbm, ⟨3, _⟩ => ⟨S16x256x512, .bf16⟩
  | .hbm, ⟨4, _⟩ => ⟨S1024x256, .f32⟩
  | .hbm, ⟨5, _⟩ => ⟨S256x16, .f32⟩
  | .hbm, ⟨6, _⟩ => ⟨S16x256x512, .f32⟩
  | .hbm, ⟨7, _⟩ => ⟨S1024x16, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x16, .f32⟩
  | .hbm, ⟨12, _⟩ => ⟨S1024x16, .f32⟩
  | .hbm, ⟨13, _⟩ => ⟨S1024x16, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x16, .f32⟩
  | .hbm, ⟨18, _⟩ => ⟨S1024x16, .f32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1024, .i32⟩
  | .hbm, ⟨23, _⟩ => ⟨S1024x1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S_, .i32⟩
  | .hbm, ⟨28, _⟩ => ⟨S1024x1, .i32⟩
  | .hbm, ⟨29, _⟩ => ⟨S1024x1, .i32⟩
  | .hbm, ⟨30, _⟩ => ⟨S1024x1, .i32⟩
  | .hbm, ⟨31, _⟩ => ⟨S1024x1x1, .i32⟩
  | .hbm, ⟨32, _⟩ => ⟨S1, .i32⟩
  | .hbm, ⟨33, _⟩ => ⟨S_, .i32⟩
  | .hbm, ⟨34, _⟩ => ⟨S1024x1x1, .i32⟩
  | .hbm, ⟨35, _⟩ => ⟨S1024x1x1, .i1⟩
  | .hbm, ⟨36, _⟩ => ⟨S1x1x1, .i32⟩
  | .hbm, ⟨37, _⟩ => ⟨S1024x1x1, .i32⟩
  | .hbm, ⟨38, _⟩ => ⟨S1024x1x1, .i1⟩
  | .hbm, ⟨39, _⟩ => ⟨S1024x1x1, .i1⟩
  | .hbm, ⟨40, _⟩ => ⟨S_, .i1⟩
  | .hbm, ⟨41, _⟩ => ⟨S1024x1, .i1⟩
  | .hbm, ⟨42, _⟩ => ⟨S1024x1, .f32⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024x1, .i32⟩
  | .hbm, ⟨47, _⟩ => ⟨S_, .i32⟩
  | .hbm, ⟨48, _⟩ => ⟨S1024x1, .i32⟩
  | .hbm, ⟨49, _⟩ => ⟨S1024x1, .i1⟩
  | .hbm, ⟨50, _⟩ => ⟨S_, .i32⟩
  | .hbm, ⟨51, _⟩ => ⟨S1024x1, .i32⟩
  | .hbm, ⟨52, _⟩ => ⟨S1024x1, .i32⟩
  | .hbm, ⟨53, _⟩ => ⟨S1024x1, .i32⟩
  | .hbm, ⟨54, _⟩ => ⟨S1024x1x1, .i32⟩
  | .hbm, ⟨55, _⟩ => ⟨S1, .i32⟩
  | .hbm, ⟨56, _⟩ => ⟨S_, .i32⟩
  | .hbm, ⟨57, _⟩ => ⟨S1024x1x1, .i32⟩
  | .hbm, ⟨58, _⟩ => ⟨S1024x1x1, .i1⟩
  | .hbm, ⟨59, _⟩ => ⟨S1x1x1, .i32⟩
  | .hbm, ⟨60, _⟩ => ⟨S1024x1x1, .i32⟩
  | .hbm, ⟨61, _⟩ => ⟨S1024x1x1, .i1⟩
  | .hbm, ⟨62, _⟩ => ⟨S1024x1x1, .i1⟩
  | .hbm, ⟨63, _⟩ => ⟨S_, .i1⟩
  | .hbm, ⟨64, _⟩ => ⟨S1024x1, .i1⟩
  | .hbm, ⟨65, _⟩ => ⟨S1024x1, .f32⟩
  | .hbm, ⟨66, _⟩ => ⟨S_, .f32⟩
  | .hbm, ⟨67, _⟩ => ⟨S1024x1, .f32⟩
  | .hbm, ⟨68, _⟩ => ⟨S1024x1, .f32⟩
  | .hbm, ⟨69, _⟩ => ⟨S1024x1, .f32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S1024, .i32⟩
  | .hbm, ⟨77, _⟩ => ⟨S1024x1, .i32⟩
  | .hbm, ⟨78, _⟩ => ⟨S1024x256x512, .f32⟩
  | .hbm, ⟨79, _⟩ => ⟨S1024x512, .f32⟩
  | .hbm, ⟨80, _⟩ => ⟨S_, .i32⟩
  | .hbm, ⟨81, _⟩ => ⟨S1024, .i32⟩
  | .hbm, ⟨82, _⟩ => ⟨S1024, .i1⟩
  | .hbm, ⟨83, _⟩ => ⟨S_, .i32⟩
  | .hbm, ⟨84, _⟩ => ⟨S1024, .i32⟩
  | .hbm, ⟨85, _⟩ => ⟨S1024, .i32⟩
  | .hbm, ⟨86, _⟩ => ⟨S1024, .i32⟩
  | .hbm, ⟨87, _⟩ => ⟨S1024x1, .i32⟩
  | .hbm, ⟨88, _⟩ => ⟨S1024x256x512, .f32⟩
  | .hbm, ⟨89, _⟩ => ⟨S1024x512, .f32⟩
  | .hbm, ⟨90, _⟩ => ⟨S1024x1, .f32⟩
  | .hbm, ⟨91, _⟩ => ⟨S1024x512, .f32⟩
  | .hbm, ⟨92, _⟩ => ⟨S1024x512, .f32⟩
  | .hbm, ⟨93, _⟩ => ⟨S1024x1, .f32⟩
  | .hbm, ⟨94, _⟩ => ⟨S1024x512, .f32⟩
  | .hbm, ⟨95, _⟩ => ⟨S1024x512, .f32⟩
  | .hbm, ⟨96, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v18 : Ref sig .tc := ⟨.hbm, 45, rfl⟩
abbrev main_v19 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.Cells.lean ====
/-
# The cells, the schedule and the levels of the mixture-of-experts kernel

Four devices. A device's peer number `s` is the device `s + 1` steps up the ring, `s` in `0, 1, 2`. The kernel signals the
barrier of its three peers, sends peer `s` that peer's chunk of the partial sums, and later sends peer `s` its own reduced
chunk. A transfer to peer `s` lands in slot `2 - s` there, so slot `k` is filled by the receiver's own peer number `k`.

A device has thirteen cells: its barrier, and four families of three transfer semaphores (chunks going out, chunks coming
in, results going out, results coming in). All of them run one round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's duties are numbered by the three peers. -/
abbrev UB : Type := URounds (GSem nD τ sig) (Fin 3)
/-- The staging protocol's state beside the exchange's. -/
abbrev UU : Type := UR sig nD τ × UB

local notation "𝕄" => MT nD τ sig Unit (Elt F) ℕ UU ℕ

/-- Where the staging protocol's state lives, -/
abbrev EP : Emb (UR sig nD τ) (MT nD τ sig Unit (Elt F) ℕ UU ℕ) := embL
/-- and the exchange's. -/
abbrev ER : Emb UB (MT nD τ sig Unit (Elt F) ℕ UU ℕ) := embR

/-! ## Peers -/

set_option backward.proofsInPublic true in
/-- Peer `s` of device `c`. -/
def sh (s : Fin 3) (c : Dev nD) : Dev nD := ⟨(c.val + (s.val + 1)) % 4, Nat.mod_lt _ (by decide)⟩

/-- Seen from its peer, a device is the peer of the opposite number. -/
theorem sh_rev (s : Fin 3) (c : Dev nD) : sh s.rev (sh s c) = c := by revert s c; decide
/-- Peer `s` of peer `s.rev` is oneself. -/
theorem sh_rev' (s : Fin 3) (c : Dev nD) : sh s (sh s.rev c) = c := by revert s c; decide

/-- Going to peer `s`, as a permutation of the devices. -/
def shE (s : Fin 3) : Dev nD ≃ Dev nD := ⟨sh s, sh s.rev, sh_rev s, sh_rev' s⟩

/-! ## Slots of the three-dimensional scratch buffers -/

/-- A slot is inside its buffer. -/
theorem slot4 (j : Fin 4) : ∀ a, (![j.val, 0, 0] : Fin 3 → Nat) a + S1x256x512.size a ≤ S4x256x512.size a := by
  revert j; decide
theorem slot3 (k : Fin 3) : ∀ a, (![k.val, 0, 0] : Fin 3 → Nat) a + S1x256x512.size a ≤ S3x256x512.size a := by
  revert k; decide

/-- Slot `j` of a four-slot buffer, as a rectangle. -/
abbrev rect4 (j : Fin 4) : Rect S4x256x512 := Rect.unit (s := S4x256x512) ![j.val, 0, 0] S1x256x512.size (slot4 j)
/-- Slot `k` of a three-slot buffer, as a rectangle. -/
abbrev rect3 (k : Fin 3) : Rect S3x256x512 := Rect.unit (s := S3x256x512) ![k.val, 0, 0] S1x256x512.size (slot3 k)

/-- Chunk `j` of the partial sums. -/
abbrev pM (j : Fin 4) : Memref sig .tc .vmem S256x512 .bf16 :=
  ((Memref.whole cc0_scratch0 : Memref sig .tc .vmem S4x256x512 .bf16).slice (rect4 j) (fun _ => rfl)).squeeze S256x512 squeezes_S1x256x512_S256x512
/-- Slot `k` of the incoming chunks. -/
abbrev rM (k : Fin 3) : Memref sig .tc .vmem S256x512 .bf16 :=
  ((Memref.whole cc0_scratch1 : Memref sig .tc .vmem S3x256x512 .bf16).slice (rect3 k) (fun _ => rfl)).squeeze S256x512 squeezes_S1x256x512_S256x512
/-- The outgoing result. -/
abbrev sM : Memref sig .tc .vmem S256x512 .bf16 := Memref.whole cc0_scratch2
/-- Slot `k` of the incoming results. -/
abbrev bM (k : Fin 3) : Memref sig .tc .vmem S256x512 .bf16 :=
  ((Memref.whole cc0_scratch3 : Memref sig .tc .vmem S3x256x512 .bf16).slice (rect3 k) (fun _ => rfl)).squeeze S256x512 squeezes_S1x256x512_S256x512

/-! ## Cells -/

/-- The barrier semaphore. -/
abbrev barS : Sem sig := (SemArray.scalar (sig.barrier 0 rfl) : Sems sig S_).sem

set_option backward.proofsInPublic true in
/-- Transfer semaphore `s` of family `a`: chunks out, chunks in, results out, results in. -/
def qn (a : Fin 4) (s : Fin 3) : DmaSem sig := ⟨5 + (3 * a.val + s.val), by have := a.isLt; have := s.isLt; show _ < 17; omega⟩

/-- A device's barrier cell, -/
abbrev barCell (c : Dev nD) : GSem nD τ sig := ((c : Thread nD τ), .reg barS)
/-- and its transfer cells. -/
abbrev dCell (c : Dev nD) (a : Fin 4) (s : Fin 3) : GSem nD τ sig := ((c : Thread nD τ), .dma (qn a s))

/-- What one transfer credits. -/
abbrev N : ℕ := (sM : Memref sig .tc .vmem S256x512 .bf16).view.dmaCredit
/-- A transfer credits something, the same for every slot. -/
theorem N_pos : 0 < N := View.dmaCredit_pos _ (by decide)
theorem credit_p (j : Fin 4) : (pM j).view.dmaCredit = N := rfl
theorem credit_r (k : Fin 3) : (rM k).view.dmaCredit = N := rfl
theorem credit_b (k : Fin 3) : (bM k).view.dmaCredit = N := rfl

/-! ## The schedule, over the chunks `P c j` device `c` computes and the result `B c` it sends -/

section Sched
variable (P : Dev nD → Dev nD → S256x512.Idx → Elt F .bf16) (B : Dev nD → S256x512.Idx → Elt F .bf16)

/-- A third of the outgoing result. -/
def third (s : Fin 3) : PosShare TreeShare := match s with
  | 0 => fullShare.left | 1 => fullShare.right.left | 2 => fullShare.right.right

/-- A slot owned outright at some contents. -/
def some_ (c : Dev nD) (M : Memref sig .tc .vmem S256x512 .bf16) : sProp 𝕄 := iprop(∃ X, owns (c : Thread nD τ) M fullShare X)
/-- The two landing slots device `p` lends to the sender that fills its slots `k`. -/
def slots (p : Dev nD) (k : Fin 3) : sProp 𝕄 := iprop(some_ p (rM k) ∗ some_ p (bM k))
/-- What the peer that pays duty `s` of device `c`'s barrier hands over. -/
def barPay (c : Dev nD) (s : Fin 3) : sProp 𝕄 := slots (F := F) (sh s.rev c) s
/-- What each transfer hands its end: the sent chunk back, the chunk that came, the third of the result back, the result that came. -/
def dmaPay (c : Dev nD) (a : Fin 4) (s : Fin 3) : sProp 𝕄 := match a with
  | 0 => owns (c : Thread nD τ) (pM (sh s c)) fullShare (P c (sh s c))
  | 1 => owns (c : Thread nD τ) (rM s) fullShare (P (sh s c) c)
  | 2 => (sM.view.loc (c : Thread nD τ) ↦[sM.view.set]{third s} B c)
  | 3 => owns (c : Thread nD τ) (bM s) fullShare (B (sh s c))

omit [FloatOps F] in
/-- What a cell keeps may be kept in an invariant. -/
instance some_storable (c : Dev nD) (M : Memref sig .tc .vmem S256x512 .bf16) : BI.Storable (upEmb : UEmb _ 𝕄) (some_ (F := F) c M) := by
  unfold some_; infer_instance
omit [FloatOps F] in
instance slots_storable (c : Dev nD) (k : Fin 3) : BI.Storable (upEmb : UEmb _ 𝕄) (slots (F := F) c k) := by
  unfold slots; infer_instance
omit [FloatOps F] in
instance dmaPay_storable (c : Dev nD) (a : Fin 4) (s : Fin 3) : BI.Storable (upEmb : UEmb _ 𝕄) (dmaPay P B c a s) := by
  unfold dmaPay; split <;> infer_instance

/-- One round: three units at a barrier, one transfer at a transfer semaphore past the staging ones. -/
def Rd : Rounds.Schedule (GSem nD τ sig) (Fin 3) 𝕄 where
  duties g r := if r = 0 then (match g.2 with
    | .reg _ => Finset.univ
    | .dma q => if 5 ≤ q.val then {0} else ∅) else ∅
  unitless _ := False
  amount g _ _ := match g.2 with | .reg _ => 1 | .dma _ => N
  payload g _ d := match g.2 with
    | .reg _ => barPay g.1.1 d
    | .dma q => dmaPay P B g.1.1 ⟨(q.val - 5) / 3, by have : q.val < 17 := q.isLt; omega⟩ ⟨(q.val - 5) % 3, by omega⟩
  amount_pos g _ _ _ := by
    rcases g with ⟨t, _ | _⟩
    · exact Nat.one_pos
    · exact N_pos

omit [FloatOps F] in
instance payload_storable (g : GSem nD τ sig) (r : ℕ) (d : Fin 3) :
    BI.Storable (upEmb : UEmb _ 𝕄) ((Rd P B).payload g r d) := by
  rcases g with ⟨t, _ | _⟩
  · exact slots_storable _ _
  · exact dmaPay_storable _ _ _ _ _

variable (c : Dev nD) (a : Fin 4) (s d : Fin 3)

omit [FloatOps F] in
/-- The schedule, read at each cell: who pays, how much, how much in all, and what each payment hands over. -/
theorem duties_bar : (Rd P B).duties (barCell c) 0 = Finset.univ := rfl
omit [FloatOps F] in
theorem duties_dma : (Rd P B).duties (dCell c a s) 0 = {0} := by
  dsimp only [Rd, dCell, qn]; rw [if_pos rfl]; exact if_pos (Nat.le_add_right 5 _)
omit [FloatOps F] in
theorem duties_later (g : GSem nD τ sig) : ∀ r, 1 ≤ r → (Rd P B).duties g r = ∅ :=
  fun r hr => if_neg (by omega)
omit [FloatOps F] in
theorem amount_bar : (Rd P B).amount (barCell c) 0 d = 1 := rfl
omit [FloatOps F] in
theorem amount_dma : (Rd P B).amount (dCell c a s) 0 d = N := rfl
omit [FloatOps F] in
theorem expect_bar : (Rd P B).expect (barCell c) 0 = 3 := by
  unfold Schedule.expect Schedule.amountOf
  rw [duties_bar, Finset.sum_congr rfl fun d _ => amount_bar P B c d]; rfl
omit [FloatOps F] in
theorem expect_dma : (Rd P B).expect (dCell c a s) 0 = N := by
  unfold Schedule.expect Schedule.amountOf; rw [duties_dma, Finset.sum_singleton, amount_dma]
omit [FloatOps F] in
theorem payload_bar : (Rd P B).payload (barCell c) 0 d = barPay c d := rfl
omit [FloatOps F] in
theorem payload_dma : (Rd P B).payload (dCell c a s) 0 d = dmaPay P B c a s := by
  revert a s; intro a s; fin_cases a <;> fin_cases s <;> rfl
omit [FloatOps F] in
theorem rest_bar : bigSep ((Rd P B).duties (barCell c) 0 \ ∅) (fun d => (Rd P B).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl
omit [FloatOps F] in
theorem rest_dma : bigSep ((Rd P B).duties (dCell c a s) 0 \ ∅) (fun d => (Rd P B).payload (dCell c a s) 0 d) = dmaPay P B c a s := by
  rw [Finset.sdiff_empty, duties_dma, bigSep_singleton, payload_dma]

end Sched

/-! ## What a device owes, and the levels -/

/-- Owed to peer `s`: a barrier unit, -/
def tB (c : Dev nD) (s : Fin 3) : CellTallies nD τ sig Unit := tallyAt (barCell (sh s c)) () 1
/-- a chunk, -/
def tR (c : Dev nD) (s : Fin 3) : CellTallies nD τ sig Unit := tallyAt (dCell (sh s c) 1 s.rev) () N
/-- and a result. -/
def tC (c : Dev nD) (s : Fin 3) : CellTallies nD τ sig Unit := tallyAt (dCell (sh s c) 3 s.rev) () N

/-- Owed once the chunks are gone: the three results. -/
def owedC (c : Dev nD) : CellTallies nD τ sig Unit := 0 + tC c 2 + tC c 1 + tC c 0
/-- Owed once the barrier is signalled: the chunks too. -/
def owedR (c : Dev nD) : CellTallies nD τ sig Unit := owedC c + tR c 2 + tR c 1 + tR c 0
/-- Owed at launch. -/
def owed0 (c : Dev nD) : CellTallies nD τ sig Unit := owedR c + tB c 2 + tB c 1 + tB c 0

/-- Only the cores' cells have levels. -/
def L (g : GSem nD τ sig) : Finset Unit := if g.1.2 = .tc then {()} else ∅
/-- Barriers at 1, incoming chunks at 2, incoming results at 3, the rest at 0. -/
def lv (g : GSem nD τ sig) (_ : Unit) : ℕ := match g.2 with
  | .reg _ => 1
  | .dma q => if 14 ≤ q.val then 3 else if 8 ≤ q.val ∧ q.val ≤ 10 then 2 else 0

theorem L_of_ne (g : GSem nD τ sig) (h : g.1.2 ≠ .tc) : L g = ∅ := if_neg h
theorem L_tc (c : Dev nD) (sm : SemLoc sig) : L ((c : Thread nD τ), sm) = {()} := if_pos rfl

/-- Everything in the tally is owed to a core's cell above level `l`. -/
def Above (l : ℕ) (O : CellTallies nD τ sig Unit) : Prop := ∀ g u, 0 < O g u → u ∈ L g ∧ l < lv g u

/-- What is owed at each stage lies above what is waited on there. -/
theorem above_zero (l : ℕ) : Above l 0 := fun g u h => absurd h (Nat.lt_irrefl 0)
theorem above_add {l : ℕ} {O O' : CellTallies nD τ sig Unit} (h : Above l O) (h' : Above l O') : Above l (O + O') := by
  intro g u hg
  rw [Pi.add_apply, Finsupp.add_apply] at hg
  rcases Nat.eq_zero_or_pos (O g u) with h0 | h0
  · exact h' g u (by omega)
  · exact h g u h0
theorem above_tally {l : ℕ} (c : Dev nD) (sm : SemLoc sig) (n : ℕ) (h : l < lv ((c : Thread nD τ), sm) ()) :
    Above l (tallyAt ((c : Thread nD τ), sm) () n) := by
  intro g u hg
  rw [tallyAt_apply] at hg
  by_cases h' : g = ((c : Thread nD τ), sm) ∧ u = ()
  · rw [h'.1, L_tc]; exact ⟨Finset.mem_singleton_self _, h⟩
  · rw [if_neg h'] at hg; exact absurd hg (Nat.lt_irrefl 0)

theorem above_tB (c : Dev nD) (s : Fin 3) : Above 0 (tB c s) := above_tally _ _ _ Nat.one_pos
theorem above_tR {l : ℕ} (hl : l < 2) (c : Dev nD) (s : Fin 3) : Above l (tR c s) :=
  above_tally _ _ _ (by revert s; intro s; fin_cases s <;> exact hl)
theorem above_tC {l : ℕ} (hl : l < 3) (c : Dev nD) (s : Fin 3) : Above l (tC c s) :=
  above_tally _ _ _ (by revert s; intro s; fin_cases s <;> exact hl)
theorem above_owedC {l : ℕ} (hl : l < 3) (c : Dev nD) : Above l (owedC c) :=
  above_add (above_add (above_add (above_zero l) (above_tC hl c 2)) (above_tC hl c 1)) (above_tC hl c 0)
theorem above_owedR {l : ℕ} (hl : l < 2) (c : Dev nD) : Above l (owedR c) :=
  above_add (above_add (above_add (above_owedC (by omega) c) (above_tR hl c 2)) (above_tR hl c 1)) (above_tR hl c 0)
theorem above_owed0 (c : Dev nD) : Above 0 (owed0 c) :=
  above_add (above_add (above_add (above_owedR (by omega) c) (above_tB c 2)) (above_tB c 1)) (above_tB c 0)

omit [FloatOps F] in
/-- A device may wait on a cell of level at most `l` while it owes only cells above `l`. -/
theorem mayWait (c : Dev nD) (sm : SemLoc sig) (l : ℕ) (h : lv ((c : Thread nD τ), sm) () ≤ l) {O : CellTallies nD τ sig Unit} (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => (hO g u hg).1) (fun p hp => by rw [Finset.mem_singleton.mp hp]; exact h) (fun g u hg => (hO g u hg).2)

end Cert.Moe

end
-- ==== Proof.Contents.lean ====
/-
# What every buffer of the mixture-of-experts kernel holds

The values the kernel computes, as functions of the four arrays a device reads: its weights for its four experts, its four
chunks of partial sums, and from every device's chunks the reduced chunk, the rounded chunk it sends round and the result.
-/
module

public import proofs.«01_k».proof.Proof.Cells
public import Idealize.ShloMosaic.Lib.Pipeline.ValueKit.Geometry

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI

variable {F : FTy → Type} [FloatOps F]

/-- A device's number as the kernel's words compute it. -/
def word (c : Dev nD) : BitVec 32 := Scalar.remsi (Scalar.divsi (Dev.word c) 1#32) 4#32

/-- A chunk as a one-slot block, and back. -/
def slab (X : S256x512.Idx → Elt F .bf16) : Vec F S1x256x512 .bf16 := shapeCast S1x256x512 X shapeCasts_S256x512_S1x256x512
/-- A slab of one block as the block. -/
def flat (Y : Vec F S1x256x512 .bf16) : S256x512.Idx → Elt F .bf16 := shapeCast S256x512 Y shapeCasts_S1x256x512_S256x512

section Local
variable (x : Vec F S1024x256 .bf16) (r : Vec F S256x16 .bf16) (i : Vec F S1024x2 .i32) (w : Vec F S4x256x512 .bf16) (c : Dev nD)

/-- The two columns of the chosen expert numbers. -/
def idx0 : Vec F S1024x1 .i32 := (Memref.whole cc0_stg2_0 : Memref sig .tc .vmem S1024x2 .i32).view.readAt (Elt F)
  (Rect.unit (s := S1024x2) ![0, 0] S1024x1.size inb_S1024x2_S1024x1_0_0).toLoadRect i
/-- The second column of the route. -/
def idx1 : Vec F S1024x1 .i32 := (Memref.whole cc0_stg2_0 : Memref sig .tc .vmem S1024x2 .i32).view.readAt (Elt F)
  (Rect.unit (s := S1024x2) ![0, 1] S1024x1.size inb_S1024x2_S1024x1_0_1).toLoadRect i
/-- The weights of the device's four experts. -/
def mix : FVec F S1024x4 .bf16 := k0_pay4 (word c) (k0_pay2 x r) (k0_pay3 x r) (idx0 i) (idx1 i)
/-- Expert `j` of the device, as loaded. -/
def wslab (j : Fin 4) : Vec F S1x256x512 .bf16 :=
  (Memref.whole cc0_stg3_0 : Memref sig .tc .vmem S4x256x512 .bf16).view.readAt (Elt F) (rect4 j).toLoadRect w

/-- Chunk `j` of the device's partial sums, as the kernel stores it. -/
def chunk (j : Fin 4) : FVec F S1x256x512 .bf16 := match j with
  | 0 => k0_pay12 (k0_pay1 x) (mix x r i c) (k0_pay5 (wslab w 0)) (k0_pay6 (wslab w 1)) (k0_pay7 (wslab w 2)) (k0_pay8 (wslab w 3)) k0_pay9
      (k0_pay10 (k0_pay1 x)) (k0_pay11 (word c) (k0_pay2 x r) (k0_pay3 x r) (idx0 i) (idx1 i))
  | 1 => k0_pay15 (k0_pay8 (wslab w 3))
      (k0_pay13 (k0_pay1 x) (mix x r i c) (k0_pay5 (wslab w 0)) (k0_pay6 (wslab w 1)) (k0_pay7 (wslab w 2))) (k0_pay14 (k0_pay1 x) (mix x r i c))
  | 2 => k0_pay16 (k0_pay1 x) (mix x r i c) (k0_pay5 (wslab w 0)) (k0_pay6 (wslab w 1)) (k0_pay7 (wslab w 2)) (k0_pay8 (wslab w 3))
  | 3 => k0_pay20 (k0_pay1 x) (mix x r i c) (k0_pay6 (wslab w 1)) (k0_pay7 (wslab w 2)) (k0_pay8 (wslab w 3))
      (k0_pay17 (k0_pay1 x) (mix x r i c) (k0_pay5 (wslab w 0))) (k0_pay18 (mix x r i c)) (k0_pay19 (k0_pay1 x))
/-- Chunk `j` of the device's partial result. -/
def part (j : Fin 4) : S256x512.Idx → Elt F .bf16 := flat (chunk x r i w c j)
end Local

section Exchanged
variable (P : Dev nD → Dev nD → S256x512.Idx → Elt F .bf16)

/-- The sum of a device's own chunk and two of its peers'. -/
def most (c : Dev nD) : FVec F S256x512 .f32 :=
  k0_pay22 (k0_pay21 (slab (P c c))) (slab (P (sh 0 c) c)) (slab (P (sh 1 c) c))
/-- The reduced chunk. -/
def total (c : Dev nD) : FVec F S256x512 .f32 := k0_pay23 (most P c) (slab (P (sh 2 c) c))
/-- The chunk sent round. -/
def bcast (c : Dev nD) : S256x512.Idx → Elt F .bf16 := k0_pay24 (most P c) (slab (P (sh 2 c) c))
/-- Rows `256 b` to `256 b + 255` of device `c`'s result. -/
def rows (c b : Dev nD) : FVec F S256x512 .f32 := if b = c then total P c else k0_pay25 (slab (bcast P b))
end Exchanged

/-! ## The result buffer, written four times -/

section Result
variable (P : Dev nD → Dev nD → S256x512.Idx → Elt F .bf16)

/-- The result's staging buffer. -/
abbrev oM : Memref sig .tc .vmem S1024x512 .f32 := Memref.whole cc0_stg4_0

/-- A block of rows is inside the result. -/
theorem rowBox (b : Dev nD) : ∀ a, (![256 * b.val, 0] : Fin 2 → Nat) a + S256x512.size a ≤ S1024x512.size a := by
  revert b; decide
/-- Block `b` of the result. -/
abbrev rectO (b : Dev nD) : Rect S1024x512 := Rect.unit (s := S1024x512) ![256 * b.val, 0] S256x512.size (rowBox b)

/-- The result buffer with block `b` overwritten. -/
def put (b : Dev nD) (X : FVec F S256x512 .f32) (f : Vec F S1024x512 .f32) : Vec F S1024x512 .f32 :=
  ((oM : Memref sig .tc .vmem S1024x512 .f32).access (rectO b) : View sig .tc _ _ _).write (Elt F) f X Finset.univ

/-- An entry's block and its place there. -/
def blkOf (i : S1024x512.Idx) : Dev nD := ⟨(i 0).val / 256, by have : (i 0).val < 1024 := (i 0).isLt; show _ < 4; omega⟩
/-- Where in its block an entry of the result is. -/
def inBlk (i : S1024x512.Idx) : S256x512.Idx := fun a => match a with
  | ⟨0, _⟩ => ⟨(i 0).val % 256, Nat.mod_lt _ (by decide)⟩
  | ⟨1, _⟩ => i 1

/-- The result. -/
def result (c : Dev nD) : Vec F S1024x512 .f32 := fun i => rows P c (blkOf i) (inBlk i)

omit [FloatOps F] in
/-- After storing block `b`, its entries are the stored ones and the rest are as they were. -/
theorem put_apply (b : Dev nD) (X : FVec F S256x512 .f32) (f : Vec F S1024x512 .f32) (i : S1024x512.Idx) :
    put b X f i = if blkOf i = b then X (inBlk i) else f i := by
  have hemb (j : S256x512.Idx) (a : Fin 2) : (((oM : Memref sig .tc .vmem S1024x512 .f32).access (rectO b)).emb j a).val
      = (![256 * b.val, 0] : Fin 2 → Nat) a + (j a).val :=
    ValueKit.view_emb_slice_whole_unit_val cc0_stg4_0 ![256 * b.val, 0] S256x512.size (rowBox b) j a
  by_cases h : blkOf i = b
  · rw [if_pos h]
    have hi : ((oM : Memref sig .tc .vmem S1024x512 .f32).access (rectO b)).emb (inBlk i) = i := by
      funext a; apply Fin.ext; rw [hemb]; subst h
      match a with
      | ⟨0, _⟩ => show 256 * ((i 0).val / 256) + (i 0).val % 256 = (i 0).val; omega
      | ⟨1, _⟩ => show 0 + (i 1).val = (i 1).val; omega
    unfold put
    conv_lhs => rw [← hi]
    exact View.write_emb_of_mem (Val := Elt F) _ _ (Finset.mem_univ _)
  · rw [if_neg h]
    unfold put
    refine View.write_of_not_mem (Val := Elt F) _ _ _ fun hm => h ?_
    obtain ⟨j, hj⟩ := View.exists_emb_of_mem_set _ hm
    subst hj
    apply Fin.ext
    show (((oM : Memref sig .tc .vmem S1024x512 .f32).access (rectO b)).emb j 0).val / 256 = b.val
    have hj : (j 0).val < 256 := (j 0).isLt
    rw [hemb]; show (256 * b.val + (j 0).val) / 256 = b.val; omega

omit [FloatOps F] in
/-- A device is none of its peers, -/
theorem sh_ne (c : Dev nD) : ∀ s, sh s c ≠ c := by revert c; decide
omit [FloatOps F] in
/-- its peers are three, -/
theorem sh_apart (c : Dev nD) : sh 0 c ≠ sh 1 c ∧ sh 0 c ≠ sh 2 c ∧ sh 1 c ≠ sh 2 c := by revert c; decide
omit [FloatOps F] in
/-- and with itself they are all. -/
theorem sh_cover (b c : Dev nD) : b = c ∨ b = sh 0 c ∨ b = sh 1 c ∨ b = sh 2 c := by revert b c; decide

/-- After the device's own block and then those of its peers, the buffer holds the result. -/
theorem put_all (c : Dev nD) (f : Vec F S1024x512 .f32) :
    put (sh 2 c) (k0_pay27 (slab (bcast P (sh 2 c)))) (put (sh 1 c) (k0_pay26 (slab (bcast P (sh 1 c))))
      (put (sh 0 c) (k0_pay25 (slab (bcast P (sh 0 c)))) (put c (total P c) f))) = result P c := by
  funext i
  rw [put_apply, put_apply, put_apply, put_apply]
  unfold result rows
  generalize blkOf i = b
  have h0 := sh_ne c
  have h1 := sh_apart c
  have hb := sh_cover b c
  rcases hb with rfl | rfl | rfl | rfl
  · rw [if_neg (h0 2).symm, if_neg (h0 1).symm, if_neg (h0 0).symm, if_pos rfl, if_pos rfl]
  · rw [if_neg h1.2.1, if_neg h1.1, if_pos rfl, if_neg (h0 0)]
  · rw [if_neg h1.2.2, if_pos rfl, if_neg (h0 1)]; rfl
  · rw [if_pos rfl, if_neg (h0 2)]; rfl

end Result

end Cert.Moe

end
-- ==== Proof.Steps.lean ====
/-
# One lemma per kind of step the kernel takes

Signalling a peer's barrier, waiting on one's own, sending a chunk or the result to a peer, waiting for a transfer (which also
closes its cell), loading a slot and storing one. Each is stated over the facts every device shares, `recs`.
-/
module

public import proofs.«01_k».proof.Proof.Contents

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## All thirteen cells of a device, numbered -/

set_option backward.proofsInPublic true in
/-- Number `0` is the barrier, number `k + 1` transfer semaphore `k`. -/
def csem (k : Fin 13) : SemLoc sig := match k with
  | ⟨0, _⟩ => .reg barS
  | ⟨j + 1, h⟩ => .dma ⟨5 + j, by show _ < 17; omega⟩
/-- Cell number `k` of a device. -/
abbrev kcell (ck : Dev nD × Fin 13) : GSem nD τ sig := ((ck.1 : Thread nD τ), csem ck.2)
set_option backward.proofsInPublic true in
/-- The number of a transfer semaphore. -/
def ki (a : Fin 4) (s : Fin 3) : Fin 13 := ⟨(3 * a.val + s.val) + 1, by have := a.isLt; have := s.isLt; omega⟩

/-- Cell 0 is the barrier, -/
theorem kcell_bar (c : Dev nD) : kcell (c, 0) = barCell c := rfl
/-- the others the transfer semaphores. -/
theorem kcell_dma (c : Dev nD) (a : Fin 4) (s : Fin 3) : kcell (c, ki a s) = dCell c a s := rfl

section Recs
variable (P : Dev nD → Dev nD → S256x512.Idx → Elt F .bf16) (B : Dev nD → S256x512.Idx → Elt F .bf16) (K : Dev nD × Fin 13 → ℕ)

/-- What every device knows: each cell's invariant, that its only round has begun, and the levels. -/
def recs : sProp 𝕄 := iprop((bigSep Finset.univ fun ck : Dev nD × Fin 13 =>
  iprop(cellInv ER (Rd P B) (K ck) (kcell ck) ∗ reached ER (kcell ck) 0)) ∗ levAts L lv)

instance recs_persistent : BI.Persistent (recs P B K) := by unfold recs; infer_instance

/-- The record of one cell, -/
theorem recs_cell (ck : Dev nD × Fin 13) : recs P B K ⊢ iprop(cellInv ER (Rd P B) (K ck) (kcell ck) ∗ reached ER (kcell ck) 0) := by
  have h : recs P B K ⊢ (bigSep Finset.univ fun ck : Dev nD × Fin 13 =>
      iprop(cellInv ER (Rd P B) (K ck) (kcell ck) ∗ reached ER (kcell ck) 0)) := by
    unfold recs; iintro ⟨H, -⟩; iexact H
  exact BI.Entails.trans h (bigSep_elim (Finset.mem_univ ck))

/-- of the levels, -/
theorem recs_lev : recs P B K ⊢ (levAts L lv : sProp 𝕄) := by
  unfold recs; iintro ⟨-, H⟩; iexact H

/-- of a barrier, -/
theorem recs_bar (c : Dev nD) : recs P B K ⊢ iprop(cellInv ER (Rd P B) (K (c, 0)) (barCell c) ∗ reached ER (barCell c) 0) := recs_cell P B K (c, 0)
/-- and of a transfer semaphore. -/
theorem recs_dma (c : Dev nD) (a : Fin 4) (s : Fin 3) :
    recs P B K ⊢ iprop(cellInv ER (Rd P B) (K (c, ki a s)) (dCell c a s) ∗ reached ER (dCell c a s) 0) := recs_cell P B K (c, ki a s)

/-- What a device owes, whatever waits it has recorded. -/
def ow (c : Dev nD) (O : CellTallies nD τ sig Unit) : sProp 𝕄 := iprop(∃ W, owes (c : Thread nD τ) O W)

/-- The run of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Signalling peer `s`, with the two slots that peer fills. -/
theorem step_signal {α : Type} {Q : α → sProp 𝕄} {k : PUnit → Prog (TpuEff nD τ sig (Elt F) Λ₀ .tc) α}
    (c n : Dev nD) (s : Fin 3) (hn : n = sh s c) (O : CellTallies nD τ sig Unit) :
    iprop(recs P B K ∗ ow c (O + tB c s) ∗ dutyTok ER (barCell (sh s c)) 0 s ∗ slots c s)
      ⊢ iprop((ow c O -∗ run c (k ⟨⟩) Q)
          -∗ run c (.op (.semSignal (n, .tc) barS (1#32).toInt) k) Q) := by
  subst hn
  unfold ow
  iintro ⟨#HR, ⟨%W, HO⟩, Ht, Hs⟩ Hk
  ihave #HR' := (recs_bar P B K (sh s c)) $$ HR
  icases HR' with ⟨#HI, #Hr⟩
  iapply (Rounds.wp_signal 𝒱₀ ER (Rd P B) (c : Thread nD τ) none (dst := (sh s c : Thread nD τ)) (κ := K (sh s c, 0))
      (d := s) (by rw [duties_bar]; exact Finset.mem_univ _) ((amount_bar P B (sh s c) s).trans (by decide)) () O rfl) $$ [HO Ht Hs]
  · isplitr; · iexact HI
    isplitl [HO]; · iexact HO
    isplitl [Ht]; · iexact Ht
    isplitl [Hs]; · rw [payload_bar]; unfold barPay; rw [sh_rev]; iexact Hs
    iexact Hr
  iintro HO
  iapply Hk
  iexists _; iexact HO

/-- Waiting for the three peers: the slots the device fills on each come with it, and the barrier cell closes. -/
theorem step_enter {α : Type} {Q : α → sProp 𝕄} {k : PUnit → Prog (TpuEff nD τ sig (Elt F) Λ₀ .tc) α}
    (c : Dev nD) :
    iprop(recs P B K ∗ cred (tallyAt (barCell c) () 3) ∗ ow c (owedR c) ∗ atPos ER (barCell c) 0 ∅ 0)
      ⊢ iprop((ow c (owedR c) ∗ semVal (barCell c) 0 ∗ barPay (F := F) c 0 ∗ barPay (F := F) c 1 ∗ barPay (F := F) c 2 -∗ run c (k ⟨⟩) Q)
          -∗ run c (.op (.semWait barS (3#32).toInt) k) Q) := by
  unfold ow
  iintro ⟨#HR, Hc, ⟨%W, HO⟩, Hat⟩ Hk
  ihave #HR' := (recs_bar P B K c) $$ HR
  icases HR' with ⟨#HI, #Hr⟩
  ihave #Hlev := (recs_lev P B K) $$ HR
  iapply (Rounds.wp_wait_rest_token 𝒱₀ ER (Rd P B) (c : Thread nD τ) none (κ := K (c, 0))
      (wpE_semWait_eq 𝒱₀ (c : Thread nD τ) none Set.univ) (Set.mem_univ _) () (O := owedR c) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) 1 (Nat.le_refl 1) (above_owedR (by omega) c)); iexact Hlev
    iexact Hat
  iintro ⟨HO, Hat, -, Hpay⟩
  ihave Hp := (Entails.of_eq (rest_bar P B c)) $$ Hpay
  imod (Rounds.cell_close ER (Rd P B) (Set.mem_univ (K (c, 0))) (fun h => h) (R := 0 + 1) (duties_later P B (barCell c))) $$ [Hat] with Hz
  · isplitr; · iexact HI
    iexact Hat
  iapply Hk
  isplitl [HO]; · iexists _; iexact HO
  isplitl [Hz]; · iexact Hz
  iexact Hp

/-- Waiting for a transfer: what it hands over comes, and its cell closes. -/
theorem step_take {α : Type} {Q : α → sProp 𝕄} {k : PUnit → Prog (TpuEff nD τ sig (Elt F) Λ₀ .tc) α}
    (c : Dev nD) (a : Fin 4) (s : Fin 3) {q : DmaSem sig} (hq : q = qn a s) {sp sp' : Space} {e : EltTy} {t : Shape}
    {src : Memref sig .tc sp t e} {dst : Memref sig .tc sp' t e} {h1 : src.view.WordExact} {h2 : dst.view.WordExact}
    (hN : dst.view.dmaCredit = N) {O : CellTallies nD τ sig Unit} (l : ℕ) (hl : lv (dCell c a s) () ≤ l) (hO : Above l O) :
    iprop(recs P B K ∗ cred (tallyAt (dCell c a s) () N) ∗ ow c O ∗ atPos ER (dCell c a s) 0 ∅ 0)
      ⊢ iprop((ow c O ∗ semVal (dCell c a s) 0 ∗ dmaPay P B c a s -∗ run c (k ⟨⟩) Q)
          -∗ run c (.op (.waitDma2 q src dst h1 h2) k) Q) := by
  subst hq
  unfold ow
  iintro ⟨#HR, Hc, ⟨%W, HO⟩, Hat⟩ Hk
  ihave #HR' := (recs_dma P B K c a s) $$ HR
  icases HR' with ⟨#HI, #Hr⟩
  ihave #Hlev := (recs_lev P B K) $$ HR
  iapply (Rounds.wp_wait_rest_token 𝒱₀ ER (Rd P B) (c : Thread nD τ) none (κ := K (c, ki a s))
      (wpE_waitDma2_eq 𝒱₀ (c : Thread nD τ) none Set.univ) (Set.mem_univ _) () (O := O) (W := W) (R := 0) (m := 0) (T := ∅)
      (by rw [expect_dma, hN]; exact Nat.zero_add _)) $$ [Hc HO Hat]
  · isplitr; · iexact HI
    isplitl [Hc]; · rw [hN]; iexact Hc
    isplitl [HO]; · iexact HO
    isplitr; · iapply (mayWait c (.dma (qn a s)) l hl hO); iexact Hlev
    iexact Hat
  iintro ⟨HO, Hat, -, Hpay⟩
  ihave Hp := (Entails.of_eq (rest_dma P B c a s)) $$ Hpay
  imod (Rounds.cell_close ER (Rd P B) (Set.mem_univ (K (c, ki a s))) (fun h => h) (R := 0 + 1) (duties_later P B (dCell c a s))) $$ [Hat] with Hz
  · isplitr; · iexact HI
    iexact Hat
  iapply Hk
  isplitl [HO]; · iexists _; iexact HO
  isplitl [Hz]; · iexact Hz
  iexact Hp

/-- A transfer to peer `s` of family `a` going out and family `b` coming in, from a source that reads `X` to a slot there. -/
theorem step_send {α : Type} {Q : α → sProp 𝕄} {k : PUnit → Prog (TpuEff nD τ sig (Elt F) Λ₀ .tc) α}
    (c n : Dev nD) (s : Fin 3) (hn : n = sh s c) (a b : Fin 4) {q q' : DmaSem sig} (hq : q = qn a s) (hq' : q' = qn b s.rev)
    {src : Memref sig .tc .vmem S256x512 .bf16} {dst : Memref sig .tc .vmem S256x512 .bf16}
    (hN : dst.view.dmaCredit = N) {h1 : src.view.WordExact} {h2 : dst.view.WordExact}
    {hsc : (show Memref sig (Dev.tc n : Thread nD τ).2.kind .vmem S256x512 .bf16 from dst).view.ref.isScScratch = false}
    {hsem : DmaTarget.Typed .vmem (.dma q') (.remote (Dev.tc n : Thread nD τ) (dst : Memref sig .tc .vmem S256x512 .bf16) (.dma q) hsc)}
    {sq : PosShare TreeShare} {fs : Buf (Elt F) (src.view.loc (c : Thread nD τ))} (X : S256x512.Idx → Elt F .bf16)
    (hX : src.view.read (Elt F) fs = X)
    (hback : (src.view.loc (c : Thread nD τ) ↦[src.view.set]{sq} fs) ⊢ dmaPay P B c a s)
    (hcome : owns (sh s c : Thread nD τ) dst fullShare X ⊢ dmaPay P B (sh s c) b s.rev)
    (O : CellTallies nD τ sig Unit) :
    iprop(recs P B K ∗ (src.view.loc (c : Thread nD τ) ↦[src.view.set]{sq} fs) ∗ some_ (sh s c) dst
        ∗ ow c (O + tallyAt (dCell (sh s c) b s.rev) () N)
        ∗ dutyTok ER (dCell c a s) 0 0 ∗ dutyTok ER (dCell (sh s c) b s.rev) 0 0)
      ⊢ iprop((cred (tallyAt (dCell c a s) () N) ∗ ow c O -∗ run c (k ⟨⟩) Q)
          -∗ run c (.op (.enqueueDma src (.remote (Dev.tc n : Thread nD τ) dst (.dma q) hsc) (.dma q') h1 h2 hsem) k) Q) := by
  subst hn hq hq' hX
  unfold ow some_ owns
  iintro ⟨#HR, Hsrc, ⟨%Y, ⟨%fd, -, Hdst⟩⟩, ⟨%W, HO⟩, Ht, Ht'⟩ Hk
  ihave #HR' := (recs_dma P B K c a s) $$ HR
  icases HR' with ⟨#HI, #Hr⟩
  ihave #HR'' := (recs_dma P B K (sh s c) b s.rev) $$ HR
  icases HR'' with ⟨#HI', #Hr'⟩
  iapply (Rounds.wp_send_pointsTo 𝒱₀ ER (Rd P B) (c : Thread nD τ) none (κ₁ := K (c, ki a s)) (κ₂ := K (sh s c, ki b s.rev))
    (r₁ := 0) (r₂ := 0) (d₁ := 0) (d₂ := 0) (fd := fd) (q := sq) (fs := fs)
    (by rw [duties_dma]; exact Finset.mem_singleton_self _) (by rw [duties_dma]; exact Finset.mem_singleton_self _)
    () () N (show dst.view.amount (.dma (qn b s.rev)) = N from hN) (amount_dma P B c a s 0) (amount_dma P B (sh s c) b s.rev 0) O rfl (W := W)
    (by rw [payload_dma]; exact hback)
    (by rw [payload_dma]
        refine BI.Entails.trans ?_ hcome
        refine (owns_intro (sh s c : Thread nD τ) dst fullShare _).trans ?_
        rw [View.read_write_univ])) $$ [Hsrc Hdst HO Ht Ht']
  · isplitr; · iexact HI
    isplitr; · iexact HI'
    isplitl [Hsrc]; · iexact Hsrc
    isplitl [Hdst]; · iexact Hdst
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

end Recs

/-! ## Slots -/

section Slot
variable {n : ℕ} {m : Memref sig .tc .vmem (⟨3, ![n, 256, 512]⟩ : Shape) .bf16} {off : Fin 3 → ℕ}
  {inb : ∀ a, off a + S1x256x512.size a ≤ (⟨3, ![n, 256, 512]⟩ : Shape).size a}

/-- The flat view of one slot. -/
abbrev slotOf (m : Memref sig .tc .vmem (⟨3, ![n, 256, 512]⟩ : Shape) .bf16) (off : Fin 3 → ℕ)
    (inb : ∀ a, off a + S1x256x512.size a ≤ (⟨3, ![n, 256, 512]⟩ : Shape).size a) : Memref sig .tc .vmem S256x512 .bf16 :=
  (m.slice (Rect.unit (s := ⟨3, ![n, 256, 512]⟩) off S1x256x512.size inb) (fun _ => rfl)).squeeze S256x512 squeezes_S1x256x512_S256x512

omit [FloatOps F] in
/-- The places of a slot. -/
theorem slot_set : ((m.access (Rect.unit (s := ⟨3, ![n, 256, 512]⟩) off S1x256x512.size inb) : View sig .tc _ _ _)).set
    = (slotOf m off inb).view.set := (Memref.set_view_squeeze _ _).symm

/-- Loading a slot. -/
theorem step_load {α : Type} {Q : α → sProp 𝕄} (c : Dev nD) {X : S256x512.Idx → Elt F .bf16} {q : PosShare TreeShare}
    {hl : m.view.LoadsAt (Rect.unit (s := ⟨3, ![n, 256, 512]⟩) off S1x256x512.size inb).toLoadRect}
    {k : (S1x256x512.Idx → Elt F .bf16) → Prog (TpuEff nD τ sig (Elt F) Λ₀ .tc) α} :
    (owns (c : Thread nD τ) (slotOf m off inb) q X : sProp 𝕄)
      ⊢ iprop((owns (c : Thread nD τ) (slotOf m off inb) q X -∗ run c (k (slab X)) Q)
        -∗ run c (.op (.load m (Rect.unit (s := ⟨3, ![n, 256, 512]⟩) off S1x256x512.size inb).toLoadRect hl) k) Q) := by
  unfold owns
  iintro ⟨%f, %hf, H⟩ Hk
  iapply (wp_load_rect 𝒱₀ (c : Thread nD τ) none Set.univ (m := m) (r := Rect.unit (s := ⟨3, ![n, 256, 512]⟩) off S1x256x512.size inb) (S := (slotOf m off inb).view.set) (q := q) (f := f)
    (by rw [slot_set])) $$ H
  iintro H
  have hv : (m.access (Rect.unit (s := ⟨3, ![n, 256, 512]⟩) off S1x256x512.size inb) : View sig .tc _ _ _).read (Elt F) f = slab X := by
    subst hf
    exact (shapeCast_shapeCast _ shapeCasts_S1x256x512_S256x512 shapeCasts_S256x512_S1x256x512).symm
  rw [hv]
  iapply Hk
  iexists f; isplitr; · (ipureintro; exact hf)
  iexact H

/-- Storing into a slot. -/
theorem step_store {α : Type} {Q : α → sProp 𝕄} (c : Dev nD) {w : S1x256x512.Idx → Elt F .bf16}
    {hx : (m.access (Rect.unit (s := ⟨3, ![n, 256, 512]⟩) off S1x256x512.size inb)).Stores Finset.univ} {hm}
    {k : PUnit → Prog (TpuEff nD τ sig (Elt F) Λ₀ .tc) α} :
    (some_ c (slotOf m off inb) : sProp 𝕄)
      ⊢ iprop((owns (c : Thread nD τ) (slotOf m off inb) fullShare (flat w) -∗ run c (k ⟨⟩) Q)
        -∗ run c (.op (.store m (Rect.unit (s := ⟨3, ![n, 256, 512]⟩) off S1x256x512.size inb) w Finset.univ hx hm) k) Q) := by
  unfold some_ owns
  iintro ⟨%X, ⟨%f, -, H⟩⟩ Hk
  iapply (wp_store 𝒱₀ (c : Thread nD τ) none Set.univ (m := m) (r := Rect.unit (s := ⟨3, ![n, 256, 512]⟩) off S1x256x512.size inb)
    (Mk := Finset.univ) (S := (slotOf m off inb).view.set) (f := f) (by rw [View.setOn_univ, slot_set])) $$ H
  iintro H
  iapply Hk
  iexists _
  isplitr
  · ipureintro
    exact congrArg (fun Y => shapeCast S256x512 Y shapeCasts_S1x256x512_S256x512)
      (View.read_write_univ (v := (m.access (Rect.unit (s := ⟨3, ![n, 256, 512]⟩) off S1x256x512.size inb) : View sig .tc _ _ _)) f w)
  iexact H

end Slot

end Cert.Moe

end
-- ==== Proof.Parts.lean ====
/-
# The kernel's body, part by part

The steps at the kernel's own slots and semaphores, and then each printed part of the body run from what it needs to what it
leaves.
-/
module

public import proofs.«01_k».proof.Proof.Steps

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c`'s buffer `b`, whole, at contents `f`. -/
abbrev buf (c : Dev nD) (b : Ref sig .tc) (f : b.ty.Contents (Elt F)) : sProp 𝕄 := ((c : Thread nD τ).loc b) ↦{fullShare} f

/-- Each device id that the kernel computes is that of a peer. -/
theorem dev1 (c : Dev nD) : (⟨k0_dev1 c, k0_dev1_lt c⟩ : Dev nD) = sh 0 c := Fin.ext (k0_dev1_eq c)
theorem dev2 (c : Dev nD) : (⟨k0_dev2 c, k0_dev2_lt c⟩ : Dev nD) = sh 1 c := Fin.ext (k0_dev2_eq c)
theorem dev3 (c : Dev nD) : (⟨k0_dev3 c, k0_dev3_lt c⟩ : Dev nD) = sh 2 c := Fin.ext (k0_dev3_eq c)
theorem dev4 (c : Dev nD) : (⟨k0_dev4 c, k0_dev4_lt c⟩ : Dev nD) = sh 0 c := Fin.ext (k0_dev4_eq c)
theorem dev5 (c : Dev nD) : (⟨k0_dev5 c, k0_dev5_lt c⟩ : Dev nD) = sh 1 c := Fin.ext (k0_dev5_eq c)
theorem dev6 (c : Dev nD) : (⟨k0_dev6 c, k0_dev6_lt c⟩ : Dev nD) = sh 2 c := Fin.ext (k0_dev6_eq c)
theorem dev7 (c : Dev nD) : (⟨k0_dev7 c, k0_dev7_lt c⟩ : Dev nD) = sh 0 c := Fin.ext (k0_dev7_eq c)
theorem dev8 (c : Dev nD) : (⟨k0_dev8 c, k0_dev8_lt c⟩ : Dev nD) = sh 1 c := Fin.ext (k0_dev8_eq c)
theorem dev9 (c : Dev nD) : (⟨k0_dev9 c, k0_dev9_lt c⟩ : Dev nD) = sh 2 c := Fin.ext (k0_dev9_eq c)

/-- A peer's number. -/
theorem peer_val (s : Fin 3) (c : Dev nD) : (sh s c).val = (c.val + s.val + 1) % 4 := rfl
/-- The offsets that the kernel computes: of a peer's chunk, -/
theorem off1 (c : Dev nD) (s : Fin 3) : k0_off1 c (BitVec.ofNat 32 (1 + s.val)) = ![(sh s c).val, 0, 0] := k0_off1_eq c s
/-- and of a peer's rows. -/
theorem off4 (c : Dev nD) (s : Fin 3) : k0_off4 c (BitVec.ofNat 32 (1 + s.val)) = ![256 * (sh s c).val, 0] := k0_off4_eq c s

omit [FloatOps F] in
theorem hz2 : (![0, 0] : Fin 2 → Nat) = fun _ => 0 := funext fun a => by fin_cases a <;> rfl

omit [FloatOps F] in
/-- The result's send buffer, held whole. -/
theorem sPts (c : Dev nD) (q : PosShare TreeShare) (f : (cc0_scratch2 : Ref sig .tc).ty.Contents (Elt F)) :
    (sM.view.loc (c : Thread nD τ) ↦[sM.view.set]{q} f : sProp 𝕄) = (((c : Thread nD τ).loc cc0_scratch2) ↦{q} f) := by
  rw [View.set_whole]

omit [FloatOps F] in
/-- Four things, one for each chunk, in the order of the device's own and its peers'. -/
theorem by_peers (c : Dev nD) (Φ : Fin 4 → sProp 𝕄) :
    iprop(Φ 0 ∗ Φ 1 ∗ Φ 2 ∗ Φ 3) = iprop(Φ c ∗ Φ (sh 0 c) ∗ Φ (sh 1 c) ∗ Φ (sh 2 c)) :=
  (bigSep_univ_eq_bigSepL [0, 1, 2, 3] (by decide) (by decide) Φ).symm.trans
    (bigSep_univ_eq_bigSepL [c, sh 0 c, sh 1 c, sh 2 c] (by revert c; decide) (by revert c; decide) Φ)

section Body
variable (P : Dev nD → Dev nD → S256x512.Idx → Elt F .bf16) (K : Dev nD × Fin 13 → ℕ)

/-- Sending peer `s` its chunk. -/
theorem step_chunk {α : Type} {Q : α → sProp 𝕄} {k : PUnit → Prog (TpuEff nD τ sig (Elt F) Λ₀ .tc) α}
    (c n : Dev nD) (s : Fin 3) (hn : n = sh s c) {q q' : DmaSem sig} (hq : q = qn 0 s) (hq' : q' = qn 1 s.rev)
    {off off' : Fin 3 → ℕ} {inb} {inb'} (hoff : off = ![(sh s c).val, 0, 0]) (hoff' : off' = ![s.rev.val, 0, 0])
    {h1 : (slotOf (Memref.whole cc0_scratch0) off inb).view.WordExact} {h2 : (slotOf (Memref.whole cc0_scratch1) off' inb').view.WordExact}
    {hsc} {hsem : DmaTarget.Typed .vmem (.dma q') (.remote (Dev.tc n : Thread nD τ) (slotOf (Memref.whole cc0_scratch1) off' inb') (.dma q) hsc)}
    (O : CellTallies nD τ sig Unit) :
    iprop(recs P (bcast P) K ∗ owns (c : Thread nD τ) (pM (sh s c)) fullShare (P c (sh s c)) ∗ some_ (sh s c) (rM s.rev)
        ∗ ow c (O + tR c s) ∗ dutyTok ER (dCell c 0 s) 0 0 ∗ dutyTok ER (dCell (sh s c) 1 s.rev) 0 0)
      ⊢ iprop((cred (tallyAt (dCell c 0 s) () N) ∗ ow c O -∗ run c (k ⟨⟩) Q)
          -∗ run c (.op (.enqueueDma (slotOf (Memref.whole cc0_scratch0) off inb)
              (.remote (Dev.tc n : Thread nD τ) (slotOf (Memref.whole cc0_scratch1) off' inb') (.dma q) hsc) (.dma q') h1 h2 hsem) k) Q) := by
  subst hoff hoff'
  iintro ⟨HR, Hsrc, Hrest⟩
  unfold owns
  icases Hsrc with ⟨%fs, %hX, Hsrc⟩
  iapply (step_send P (bcast P) K c n s hn 0 1 hq hq' (credit_r s.rev) (P c (sh s c)) hX
    (by show _ ⊢ owns (c : Thread nD τ) (pM (sh s c)) fullShare (P c (sh s c))
        exact (owns_intro (c : Thread nD τ) (pM (sh s c)) fullShare fs).trans (by rw [hX]))
    (by show _ ⊢ owns (sh s c : Thread nD τ) (rM s.rev) fullShare (P (sh s.rev (sh s c)) (sh s c))
        rw [sh_rev]) O)
  isplitl [HR]; · iexact HR
  isplitl [Hsrc]; · iexact Hsrc
  iexact Hrest

/-- Sending peer `s` the rounded reduced chunk. -/
theorem step_bcast {α : Type} {Q : α → sProp 𝕄} {k : PUnit → Prog (TpuEff nD τ sig (Elt F) Λ₀ .tc) α}
    (c n : Dev nD) (s : Fin 3) (hn : n = sh s c) {q q' : DmaSem sig} (hq : q = qn 2 s) (hq' : q' = qn 3 s.rev)
    {off' : Fin 3 → ℕ} {inb'} (hoff' : off' = ![s.rev.val, 0, 0])
    {h1 : sM.view.WordExact} {h2 : (slotOf (Memref.whole cc0_scratch3) off' inb').view.WordExact}
    {hsc} {hsem : DmaTarget.Typed .vmem (.dma q') (.remote (Dev.tc n : Thread nD τ) (slotOf (Memref.whole cc0_scratch3) off' inb') (.dma q) hsc)}
    (O : CellTallies nD τ sig Unit) :
    iprop(recs P (bcast P) K ∗ (((c : Thread nD τ).loc cc0_scratch2) ↦{third s} bcast P c) ∗ some_ (sh s c) (bM s.rev)
        ∗ ow c (O + tC c s) ∗ dutyTok ER (dCell c 2 s) 0 0 ∗ dutyTok ER (dCell (sh s c) 3 s.rev) 0 0)
      ⊢ iprop((cred (tallyAt (dCell c 2 s) () N) ∗ ow c O -∗ run c (k ⟨⟩) Q)
          -∗ run c (.op (.enqueueDma sM
              (.remote (Dev.tc n : Thread nD τ) (slotOf (Memref.whole cc0_scratch3) off' inb') (.dma q) hsc) (.dma q') h1 h2 hsem) k) Q) := by
  subst hoff'
  rw [← sPts]
  exact step_send P (bcast P) K c n s hn 2 3 hq hq' (credit_b s.rev) (bcast P c) (View.read_whole _ _)
    (BI.Entails.refl _)
    (by show _ ⊢ owns (sh s c : Thread nD τ) (bM s.rev) fullShare (bcast P (sh s.rev (sh s c)))
        rw [sh_rev]) O

/-- Overwriting block `b` of the result buffer. -/
theorem step_put {α : Type} {Q : α → sProp 𝕄} {k : PUnit → Prog (TpuEff nD τ sig (Elt F) Λ₀ .tc) α}
    (c b : Dev nD) {off : Fin 2 → ℕ} {inb} (hoff : off = ![256 * b.val, 0]) {X : S256x512.Idx → Elt F .f32} {hx} {hm}
    (f : (cc0_stg4_0 : Ref sig .tc).ty.Contents (Elt F)) :
    buf c cc0_stg4_0 f ⊢ iprop((buf c cc0_stg4_0 (put b X f) -∗ run c (k ⟨⟩) Q)
      -∗ run c (.op (.store oM (Rect.unit (s := S1024x512) off S256x512.size inb) X Finset.univ hx hm) k) Q) := by
  subst hoff
  exact wp_store 𝒱₀ (c : Thread nD τ) none Set.univ (m := oM) (r := rectO b) (Mk := Finset.univ) (Finset.subset_univ _)

variable (x : Vec F S1024x256 .bf16) (r : Vec F S256x16 .bf16) (i : Vec F S1024x2 .i32) (w : Vec F S4x256x512 .bf16) (c : Dev nD)

/-- Part 1: the barrier, and the tokens and the router read. -/
theorem part1_run {Kt : _ → sProp 𝕄} :
    iprop((recs P (bcast P) K ∗ ow c (owed0 c)
        ∗ (dutyTok ER (barCell (sh 0 c)) 0 0 ∗ dutyTok ER (barCell (sh 1 c)) 0 1 ∗ dutyTok ER (barCell (sh 2 c)) 0 2)
        ∗ (slots (F := F) c 0 ∗ slots (F := F) c 1 ∗ slots (F := F) c 2)
        ∗ cred (tallyAt (barCell c) () 3) ∗ atPos ER (barCell c) 0 ∅ 0
        ∗ buf c cc0_stg0_0 x ∗ buf c cc0_stg1_0 r)
      ∗ ((ow c (owedR c) ∗ semVal (barCell c) 0 ∗ (barPay (F := F) c 0 ∗ barPay (F := F) c 1 ∗ barPay (F := F) c 2)
          ∗ buf c cc0_stg0_0 x ∗ buf c cc0_stg1_0 r)
        -∗ Kt ⟨c, word c, k0_pay1 x, k0_pay2 x r, k0_pay3 x r⟩))
      ⊢ run c (k0_part1 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  unfold run word
  simp only [k0_part1_eq_skeleton]; unfold k0_part1_skel
  simp only [semSignalWord, semWaitWord, Prog.lift, Prog.bind_op, Prog.bind_ret, Prog.pure_eq_ret, wp_deviceId]
  iintro ⟨⟨#HR, HO, ⟨Ht0, Ht1, Ht2⟩, ⟨Hs0, Hs1, Hs2⟩, Hc, Hat, Hx, Hr⟩, Hk⟩
  iapply (step_signal P (bcast P) K c _ 0 (dev1 c) (owedR c + tB c 2 + tB c 1)) $$ [HO Ht0 Hs0]
  · isplitr; · iexact HR
    isplitl [HO]; · iexact HO
    isplitl [Ht0] <;> iassumption
  iintro HO
  iapply (step_signal P (bcast P) K c _ 1 (dev2 c) (owedR c + tB c 2)) $$ [HO Ht1 Hs1]
  · isplitr; · iexact HR
    isplitl [HO]; · iexact HO
    isplitl [Ht1] <;> iassumption
  iintro HO
  iapply (step_signal P (bcast P) K c _ 2 (dev3 c) (owedR c)) $$ [HO Ht2 Hs2]
  · isplitr; · iexact HR
    isplitl [HO]; · iexact HO
    isplitl [Ht2] <;> iassumption
  iintro HO
  iapply (step_enter P (bcast P) K c) $$ [HO Hc Hat]
  · isplitr; · iexact HR
    isplitl [Hc]; · iexact Hc
    isplitl [HO] <;> iassumption
  iintro ⟨HO, Hz, Hp⟩
  iapply (wp_load 𝒱₀ (c : Thread nD τ) none Set.univ (m := Memref.whole cc0_stg0_0) (Finset.subset_univ _)) $$ Hx; iintro Hx
  rw [show (Memref.whole cc0_stg0_0 : Memref sig .tc .vmem S1024x256 .bf16).view.readAt (Elt F)
    (Rect.unit (s := S1024x256) ![0, 0] S1024x256.size inb_S1024x256_S1024x256_0_0).toLoadRect x = x
    from Memref.readAt_unit_zero (Elt F) cc0_stg0_0 hz2 _ x]
  iapply (wp_load 𝒱₀ (c : Thread nD τ) none Set.univ (m := Memref.whole cc0_stg1_0) (Finset.subset_univ _)) $$ Hr; iintro Hr
  rw [show (Memref.whole cc0_stg1_0 : Memref sig .tc .vmem S256x16 .bf16).view.readAt (Elt F)
    (Rect.unit (s := S256x16) ![0, 0] S256x16.size inb_S256x16_S256x16_0_0).toLoadRect r = r
    from Memref.readAt_unit_zero (Elt F) cc0_stg1_0 hz2 _ r]
  rw [wp_ret]; imodintro
  iapply Hk
  isplitl [HO]; · iexact HO
  isplitl [Hz]; · iexact Hz
  isplitl [Hp]; · iexact Hp
  isplitl [Hx] <;> iassumption

/-- Part 2: the chosen experts and the device's own experts read. -/
theorem part2_run {Kt : _ → sProp 𝕄} :
    iprop((buf c cc0_stg2_0 i ∗ buf c cc0_stg3_0 w)
      ∗ ((buf c cc0_stg2_0 i ∗ buf c cc0_stg3_0 w)
        -∗ Kt ⟨mix x r i c, k0_pay5 (wslab w 0), k0_pay6 (wslab w 1), k0_pay7 (wslab w 2), k0_pay8 (wslab w 3), k0_pay9, k0_pay10 (k0_pay1 x),
            k0_pay11 (word c) (k0_pay2 x r) (k0_pay3 x r) (idx0 i) (idx1 i)⟩))
      ⊢ run c (k0_part2 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            (word c) (k0_pay1 x) (k0_pay2 x r) (k0_pay3 x r)) Kt := by
  unfold run
  simp only [k0_part2_eq_skeleton]; unfold k0_part2_skel
  simp only [Prog.lift, Prog.bind_op, Prog.bind_ret, Prog.pure_eq_ret]
  iintro ⟨⟨Hi, Hw⟩, Hk⟩
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg3_0) (Finset.subset_univ _)) $$ Hw; iintro Hw
  iapply (wp_load 𝒱₀ (c : Thread nD τ) none Set.univ (m := Memref.whole cc0_stg3_0) (Finset.subset_univ _)) $$ Hw; iintro Hw
  iapply (wp_load 𝒱₀ (c : Thread nD τ) none Set.univ (m := Memref.whole cc0_stg3_0) (Finset.subset_univ _)) $$ Hw; iintro Hw
  iapply (wp_load 𝒱₀ (c : Thread nD τ) none Set.univ (m := Memref.whole cc0_stg3_0) (Finset.subset_univ _)) $$ Hw; iintro Hw
  rw [wp_ret]; imodintro
  refine BIBase.Entails.trans ?_ (show Kt ⟨mix x r i c, k0_pay5 (wslab w 0), k0_pay6 (wslab w 1), k0_pay7 (wslab w 2), k0_pay8 (wslab w 3), k0_pay9,
    k0_pay10 (k0_pay1 x), k0_pay11 (word c) (k0_pay2 x r) (k0_pay3 x r) (idx0 i) (idx1 i)⟩ ⊢ _ from BI.Entails.refl _)
  iintro ⟨⟨Hk, Hi⟩, Hw⟩
  iapply Hk
  isplitl [Hi] <;> iassumption

/-- Part 3: chunk 0 stored. -/
theorem part3_run {Kt : _ → sProp 𝕄} (v17 v55 v57 v59 v61 v63 v64 v66 v67) :
    iprop(some_ (F := F) c (pM 0)
      ∗ (owns (c : Thread nD τ) (pM 0) fullShare (flat (k0_pay12 v17 v55 v57 v59 v61 v63 v64 v66 v67)) -∗ Kt ⟨k0_pay13 v17 v55 v57 v59 v61, k0_pay14 v17 v55⟩))
      ⊢ run c (k0_part3 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            v17 v55 v57 v59 v61 v63 v64 v66 v67) Kt := by
  unfold run
  simp only [k0_part3_eq_skeleton]; unfold k0_part3_skel
  simp only [Prog.lift, Prog.bind_op, Prog.bind_ret, Prog.pure_eq_ret]
  unfold some_
  iintro ⟨⟨%X, H⟩, Hk⟩
  iapply (step_load (m := Memref.whole cc0_scratch0) c) $$ H; iintro H
  iapply (step_store (m := Memref.whole cc0_scratch0) c) $$ [H]
  · unfold some_; iexists X; iexact H
  iintro H
  unfold run; rw [wp_ret]; imodintro
  iapply Hk; iexact H

/-- Part 4: chunks 1 and 2 stored. -/
theorem part4_run {Kt : _ → sProp 𝕄} (v17 v55 v57 v59 v61 v63 v111 v115) :
    iprop((some_ (F := F) c (pM 1) ∗ some_ (F := F) c (pM 2))
      ∗ ((owns (c : Thread nD τ) (pM 1) fullShare (flat (k0_pay15 v63 v111 v115))
          ∗ owns (c : Thread nD τ) (pM 2) fullShare (flat (k0_pay16 v17 v55 v57 v59 v61 v63)))
        -∗ Kt ⟨k0_pay17 v17 v55 v57, k0_pay18 v55, k0_pay19 v17⟩))
      ⊢ run c (k0_part4 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            v17 v55 v57 v59 v61 v63 v111 v115) Kt := by
  unfold run
  simp only [k0_part4_eq_skeleton]; unfold k0_part4_skel
  simp only [Prog.lift, Prog.bind_op, Prog.bind_ret, Prog.pure_eq_ret]
  unfold some_
  iintro ⟨⟨⟨%X, H⟩, ⟨%Y, H'⟩⟩, Hk⟩
  iapply (step_load (m := Memref.whole cc0_scratch0) c) $$ H; iintro H
  iapply (step_store (m := Memref.whole cc0_scratch0) c) $$ [H]
  · unfold some_; iexists X; iexact H
  iintro H
  iapply (step_load (m := Memref.whole cc0_scratch0) c) $$ H'; iintro H'
  iapply (step_store (m := Memref.whole cc0_scratch0) c) $$ [H']
  · unfold some_; iexists Y; iexact H'
  iintro H'
  unfold run; rw [wp_ret]; imodintro
  iapply Hk
  isplitl [H]; · iexact H
  iexact H'

/-- What device `c` needs to send peer `s` its chunk, and what it has after. -/
def chunkIn (s : Fin 3) : sProp 𝕄 := iprop(some_ (F := F) (sh s c) (rM s.rev) ∗ dutyTok ER (dCell c 0 s) 0 0 ∗ dutyTok ER (dCell (sh s c) 1 s.rev) 0 0)
/-- What device `c` needs to send peer `s` the result, besides the result. -/
def bcastIn (s : Fin 3) : sProp 𝕄 := iprop(some_ (F := F) (sh s c) (bM s.rev) ∗ dutyTok ER (dCell c 2 s) 0 0 ∗ dutyTok ER (dCell (sh s c) 3 s.rev) 0 0)
/-- What device `c` needs to wait on one of its transfer cells. -/
def taking (a : Fin 4) (s : Fin 3) : sProp 𝕄 := iprop(cred (tallyAt (dCell c a s) () N) ∗ atPos ER (dCell c a s) 0 ∅ 0)

/-- Part 5: chunk 3 stored, and peer 0's chunk sent. -/
theorem part5_run {Kt : _ → sProp 𝕄} (v2 v17 v55 v59 v61 v63 v157 v158 v159) (Y : Dev nD → S256x512.Idx → Elt F .bf16)
    (h3 : flat (k0_pay20 v17 v55 v59 v61 v63 v157 v158 v159) = P c 3) (O : CellTallies nD τ sig Unit) :
    iprop((recs P (bcast P) K ∗ some_ (F := F) c (pM 3)
          ∗ owns (c : Thread nD τ) (pM 0) fullShare (P c 0) ∗ owns (c : Thread nD τ) (pM 1) fullShare (P c 1) ∗ owns (c : Thread nD τ) (pM 2) fullShare (P c 2)
          ∗ ow c (O + tR c 0) ∗ chunkIn (F := F) c 0)
      ∗ (∀ v, (cred (tallyAt (dCell c 0 0) () N) ∗ ow c O ∗ owns (c : Thread nD τ) (pM c) fullShare (P c c)
            ∗ owns (c : Thread nD τ) (pM (sh 1 c)) fullShare (P c (sh 1 c)) ∗ owns (c : Thread nD τ) (pM (sh 2 c)) fullShare (P c (sh 2 c)))
          -∗ Kt v))
      ⊢ run c (k0_part5 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            c v2 v17 v55 v59 v61 v63 v157 v158 v159) Kt := by
  unfold run
  simp only [k0_part5_eq_skeleton]; unfold k0_part5_skel
  simp only [Prog.lift, Prog.bind_op, Prog.bind_ret, Prog.pure_eq_ret]
  unfold some_
  iintro ⟨⟨#HR, ⟨%X, H⟩, H0, H1, H2, HO, Hin⟩, Hk⟩
  iapply (step_load (m := Memref.whole cc0_scratch0) c) $$ H; iintro H
  iapply (step_store (m := Memref.whole cc0_scratch0) c) $$ [H]
  · unfold some_; iexists X; iexact H
  iintro H
  rw [h3]
  ihave Hall := (show iprop(owns (c : Thread nD τ) (pM 0) fullShare (P c 0) ∗ owns (c : Thread nD τ) (pM 1) fullShare (P c 1)
      ∗ owns (c : Thread nD τ) (pM 2) fullShare (P c 2) ∗ owns (c : Thread nD τ) (pM 3) fullShare (P c 3))
      ⊢ iprop(owns (c : Thread nD τ) (pM c) fullShare (P c c) ∗ owns (c : Thread nD τ) (pM (sh 0 c)) fullShare (P c (sh 0 c))
      ∗ owns (c : Thread nD τ) (pM (sh 1 c)) fullShare (P c (sh 1 c)) ∗ owns (c : Thread nD τ) (pM (sh 2 c)) fullShare (P c (sh 2 c)))
      from Entails.of_eq (by_peers c fun j => owns (c : Thread nD τ) (pM j) fullShare (P c j))) $$ [H H0 H1 H2]
  · isplitl [H0]; · iexact H0
    isplitl [H1]; · iexact H1
    isplitl [H2]; · iexact H2
    iexact H
  icases Hall with ⟨Hc, H0, H1, H2⟩
  unfold chunkIn
  icases Hin with ⟨Hd, Ht, Ht'⟩
  iapply (step_chunk P K c _ 0 (dev4 c) rfl rfl (off1 c 0) rfl O) $$ [H0 Hd HO Ht Ht']
  · isplitr; · iexact HR
    isplitl [H0]; · iexact H0
    isplitl [Hd]; · iexact Hd
    isplitl [HO]; · iexact HO
    isplitl [Ht] <;> iassumption
  iintro ⟨Hcr, HO⟩
  unfold run; rw [wp_ret]; imodintro
  iapply Hk
  isplitl [Hcr]; · iexact Hcr
  isplitl [HO]; · iexact HO
  isplitl [Hc]; · iexact Hc
  isplitl [H1]; · iexact H1
  iexact H2

/-- Part 6: the other two chunks sent, and the device's own read. -/
theorem part6_run {Kt : _ → sProp 𝕄} (v2 v194) (O : CellTallies nD τ sig Unit) :
    iprop((recs P (bcast P) K ∗ owns (c : Thread nD τ) (pM c) fullShare (P c c)
          ∗ owns (c : Thread nD τ) (pM (sh 1 c)) fullShare (P c (sh 1 c)) ∗ owns (c : Thread nD τ) (pM (sh 2 c)) fullShare (P c (sh 2 c))
          ∗ ow c (O + tR c 2 + tR c 1) ∗ chunkIn (F := F) c 1 ∗ chunkIn (F := F) c 2)
      ∗ ((cred (tallyAt (dCell c 0 1) () N) ∗ cred (tallyAt (dCell c 0 2) () N) ∗ ow c O ∗ owns (c : Thread nD τ) (pM c) fullShare (P c c))
          -∗ Kt (k0_pay21 (slab (P c c)))))
      ⊢ run c (k0_part6 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            c v2 v194) Kt := by
  unfold run
  simp only [k0_part6_eq_skeleton]; unfold k0_part6_skel
  simp only [Prog.lift, Prog.bind_op, Prog.bind_ret, Prog.pure_eq_ret]
  unfold chunkIn
  iintro ⟨⟨#HR, Hc, H1, H2, HO, ⟨Hd1, Ht1, Ht1'⟩, ⟨Hd2, Ht2, Ht2'⟩⟩, Hk⟩
  iapply (step_chunk P K c _ 1 (dev5 c) rfl rfl (off1 c 1) rfl (O + tR c 2)) $$ [H1 Hd1 HO Ht1 Ht1']
  · isplitr; · iexact HR
    isplitl [H1]; · iexact H1
    isplitl [Hd1]; · iexact Hd1
    isplitl [HO]; · iexact HO
    isplitl [Ht1] <;> iassumption
  iintro ⟨Hcr1, HO⟩
  iapply (step_chunk P K c _ 2 (dev6 c) rfl rfl (off1 c 2) rfl O) $$ [H2 Hd2 HO Ht2 Ht2']
  · isplitr; · iexact HR
    isplitl [H2]; · iexact H2
    isplitl [Hd2]; · iexact Hd2
    isplitl [HO]; · iexact HO
    isplitl [Ht2] <;> iassumption
  iintro ⟨Hcr2, HO⟩
  have hs : slotOf (Memref.whole cc0_scratch0) (k0_off2 c) (k0_off2_inb c) = pM c :=
    congrArg (fun M => Memref.squeeze M S256x512 squeezes_S1x256x512_S256x512) (Memref.slice_unit_congr _ (k0_off2_eq c) _ _ _ _)
  iapply (step_load (m := Memref.whole cc0_scratch0) c (X := P c c) (q := fullShare)) $$ [Hc]
  · rw [hs]; iexact Hc
  rw [hs]
  iintro Hc
  unfold run; rw [wp_ret]; imodintro
  iapply Hk
  isplitl [Hcr1]; · iexact Hcr1
  isplitl [Hcr2]; · iexact Hcr2
  isplitl [HO] <;> iassumption

/-- Part 7: the peers' chunks waited for and read. -/
theorem part7_run {Kt : _ → sProp 𝕄} (v2 v219) (hO : Above 2 (owedC c)) :
    iprop((recs P (bcast P) K ∗ ow c (owedC c) ∗ taking (F := F) c 1 0 ∗ taking (F := F) c 1 1 ∗ taking (F := F) c 1 2)
      ∗ ((ow c (owedC c) ∗ (semVal (dCell c 1 0) 0 ∗ semVal (dCell c 1 1) 0 ∗ semVal (dCell c 1 2) 0)
            ∗ (some_ (F := F) c (rM 0) ∗ some_ (F := F) c (rM 1) ∗ some_ (F := F) c (rM 2)))
          -∗ Kt ⟨k0_pay22 v219 (slab (P (sh 0 c) c)) (slab (P (sh 1 c) c)), slab (P (sh 2 c) c)⟩))
      ⊢ run c (k0_part7 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            v2 v219) Kt := by
  unfold run
  simp only [k0_part7_eq_skeleton]; unfold k0_part7_skel
  simp only [Prog.lift, Prog.bind_op, Prog.bind_ret, Prog.pure_eq_ret]
  unfold taking
  iintro ⟨⟨#HR, HO, ⟨Hc0, Ha0⟩, ⟨Hc1, Ha1⟩, ⟨Hc2, Ha2⟩⟩, Hk⟩
  iapply (step_take P (bcast P) K c 1 0 rfl (credit_r 0) 2 (Nat.le_refl 2) hO) $$ [Hc0 Ha0 HO]
  · isplitr; · iexact HR
    isplitl [Hc0]; · iexact Hc0
    isplitl [HO] <;> iassumption
  iintro ⟨HO, Hz0, Hp⟩
  unfold dmaPay
  iapply (step_load (m := Memref.whole cc0_scratch1) c (X := P (sh 0 c) c) (q := fullShare)) $$ Hp; iintro H0
  iapply (step_take P (bcast P) K c 1 1 rfl (credit_r 1) 2 (Nat.le_refl 2) hO) $$ [Hc1 Ha1 HO]
  · isplitr; · iexact HR
    isplitl [Hc1]; · iexact Hc1
    isplitl [HO] <;> iassumption
  iintro ⟨HO, Hz1, Hp⟩
  unfold dmaPay
  iapply (step_load (m := Memref.whole cc0_scratch1) c (X := P (sh 1 c) c) (q := fullShare)) $$ Hp; iintro H1
  iapply (step_take P (bcast P) K c 1 2 rfl (credit_r 2) 2 (Nat.le_refl 2) hO) $$ [Hc2 Ha2 HO]
  · isplitr; · iexact HR
    isplitl [Hc2]; · iexact Hc2
    isplitl [HO] <;> iassumption
  iintro ⟨HO, Hz2, Hp⟩
  unfold dmaPay
  iapply (step_load (m := Memref.whole cc0_scratch1) c (X := P (sh 2 c) c) (q := fullShare)) $$ Hp; iintro H2
  unfold run; rw [wp_ret]; imodintro
  iapply Hk
  isplitl [HO]; · iexact HO
  isplitl [Hz0 Hz1 Hz2]
  · isplitl [Hz0]; · iexact Hz0
    isplitl [Hz1] <;> iassumption
  unfold some_
  isplitl [H0]; · iexists _; iexact H0
  isplitl [H1]; · iexists _; iexact H1
  iexists _; iexact H2

omit [FloatOps F] in
/-- The outgoing result held outright is its three thirds held. -/
theorem thirds (f : (cc0_scratch2 : Ref sig .tc).ty.Contents (Elt F)) :
    buf c cc0_scratch2 f ⊣⊢ iprop((((c : Thread nD τ).loc cc0_scratch2) ↦{third 0} f) ∗ (((c : Thread nD τ).loc cc0_scratch2) ↦{third 1} f)
      ∗ (((c : Thread nD τ).loc cc0_scratch2) ↦{third 2} f)) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

omit [FloatOps F] in
/-- What sending a chunk credits. -/
theorem credit_slot {off inb} : (slotOf (Memref.whole cc0_scratch0 : Memref sig .tc .vmem S4x256x512 .bf16) off inb).view.dmaCredit = N := rfl

/-- A wait on a transfer cell, nothing owed. -/
theorem step_last {α : Type} {Q : α → sProp 𝕄} {k : PUnit → Prog (TpuEff nD τ sig (Elt F) Λ₀ .tc) α}
    (c : Dev nD) (a : Fin 4) (s : Fin 3) {q : DmaSem sig} (hq : q = qn a s) {sp sp' : Space} {e : EltTy} {t : Shape}
    {src : Memref sig .tc sp t e} {dst : Memref sig .tc sp' t e} {h1 : src.view.WordExact} {h2 : dst.view.WordExact}
    (hN : dst.view.dmaCredit = N) :
    iprop(recs P (bcast P) K ∗ taking (F := F) c a s ∗ ow c 0)
      ⊢ iprop((ow c 0 ∗ semVal (dCell c a s) 0 ∗ dmaPay P (bcast P) c a s -∗ run c (k ⟨⟩) Q)
          -∗ run c (.op (.waitDma2 q src dst h1 h2) k) Q) := by
  unfold taking
  iintro ⟨HR, ⟨Hc, Ha⟩, HO⟩
  iapply (step_take P (bcast P) K c a s hq hN (lv (dCell c a s) ()) (Nat.le_refl _) (above_zero _))
  isplitl [HR]; · iexact HR
  isplitl [Hc]; · iexact Hc
  isplitl [HO] <;> iassumption

/-- Part 8: the reduced chunk stored and sent to two peers. -/
theorem part8_run {Kt : _ → sProp 𝕄} (v2) (f : (cc0_stg4_0 : Ref sig .tc).ty.Contents (Elt F)) (O : CellTallies nD τ sig Unit) :
    iprop((recs P (bcast P) K ∗ buf c cc0_stg4_0 f ∗ (∃ g, buf c cc0_scratch2 g)
          ∗ ow c (O + tC c 1 + tC c 0) ∗ bcastIn (F := F) c 0 ∗ bcastIn (F := F) c 1)
      ∗ (∀ v, (buf c cc0_stg4_0 (put c (total P c) f) ∗ (((c : Thread nD τ).loc cc0_scratch2) ↦{third 2} bcast P c)
            ∗ cred (tallyAt (dCell c 2 0) () N) ∗ cred (tallyAt (dCell c 2 1) () N) ∗ ow c O) -∗ Kt v))
      ⊢ run c (k0_part8 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            c v2 (most P c) (slab (P (sh 2 c) c))) Kt := by
  unfold run
  simp only [k0_part8_eq_skeleton]; unfold k0_part8_skel
  simp only [Prog.lift, Prog.bind_op, Prog.bind_ret, Prog.pure_eq_ret]
  unfold bcastIn
  iintro ⟨⟨#HR, Hf, ⟨%g, Hg⟩, HO, ⟨Hd0, Ht0, Ht0'⟩, ⟨Hd1, Ht1, Ht1'⟩⟩, Hk⟩
  iapply (wp_load 𝒱₀ (c : Thread nD τ) none Set.univ (m := oM) (Finset.subset_univ _)) $$ Hf; iintro Hf
  iapply (step_put c c (k0_off3_eq c) f) $$ Hf; iintro Hf
  unfold run
  iapply (wp_load 𝒱₀ (c : Thread nD τ) none Set.univ (m := sM) (Finset.subset_univ _)) $$ Hg; iintro Hg
  iapply (wp_store 𝒱₀ (c : Thread nD τ) none Set.univ (m := sM)
    (r := Rect.unit (s := S256x512) ![0, 0] S256x512.size inb_S256x512_S256x512_0_0) (Mk := Finset.univ) (Finset.subset_univ _)) $$ Hg
  iintro Hg
  rw [show (sM.access (Rect.unit (s := S256x512) ![0, 0] S256x512.size inb_S256x512_S256x512_0_0) : View sig .tc _ _ _).write (Elt F) g
      (k0_pay24 (most P c) (slab (P (sh 2 c) c))) Finset.univ = bcast P c
    from Memref.write_access_unit_zero_univ (Elt F) cc0_scratch2 hz2 _ g _]
  ihave Hg3 := (show (((c : Thread nD τ).loc cc0_scratch2) ↦{fullShare} bcast P c : sProp 𝕄)
    ⊢ iprop((((c : Thread nD τ).loc cc0_scratch2) ↦{third 0} bcast P c) ∗ (((c : Thread nD τ).loc cc0_scratch2) ↦{third 1} bcast P c)
      ∗ (((c : Thread nD τ).loc cc0_scratch2) ↦{third 2} bcast P c)) from (thirds c (bcast P c)).1) $$ Hg
  icases Hg3 with ⟨Hg0, Hg1, Hg2⟩
  iapply (step_bcast P K c _ 0 (dev7 c) rfl rfl rfl (O + tC c 1)) $$ [Hg0 Hd0 HO Ht0 Ht0']
  · isplitr; · iexact HR
    isplitl [Hg0]; · iexact Hg0
    isplitl [Hd0]; · iexact Hd0
    isplitl [HO]; · iexact HO
    isplitl [Ht0] <;> iassumption
  iintro ⟨Hcr0, HO⟩
  iapply (step_bcast P K c _ 1 (dev8 c) rfl rfl rfl O) $$ [Hg1 Hd1 HO Ht1 Ht1']
  · isplitr; · iexact HR
    isplitl [Hg1]; · iexact Hg1
    isplitl [Hd1]; · iexact Hd1
    isplitl [HO]; · iexact HO
    isplitl [Ht1] <;> iassumption
  iintro ⟨Hcr1, HO⟩
  unfold run; rw [wp_ret]; imodintro
  iapply Hk
  isplitl [Hf]; · iexact Hf
  isplitl [Hg2]; · iexact Hg2
  isplitl [Hcr0]; · iexact Hcr0
  isplitl [Hcr1]; · iexact Hcr1
  iexact HO

/-- Part 9: the reduced chunk sent to the last peer, and peer 0's received. -/
theorem part9_run {Kt : _ → sProp 𝕄} (v2 v284) (f : (cc0_stg4_0 : Ref sig .tc).ty.Contents (Elt F)) :
    iprop((recs P (bcast P) K ∗ buf c cc0_stg4_0 f ∗ (((c : Thread nD τ).loc cc0_scratch2) ↦{third 2} bcast P c)
          ∗ ow c (0 + tC c 2) ∗ bcastIn (F := F) c 2 ∗ taking (F := F) c 3 0)
      ∗ (∀ v, (buf c cc0_stg4_0 (put (sh 0 c) (k0_pay25 (slab (bcast P (sh 0 c)))) f)
            ∗ cred (tallyAt (dCell c 2 2) () N) ∗ semVal (dCell c 3 0) 0 ∗ some_ (F := F) c (bM 0) ∗ ow c 0) -∗ Kt v))
      ⊢ run c (k0_part9 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            c v2 v284) Kt := by
  unfold run
  simp only [k0_part9_eq_skeleton]; unfold k0_part9_skel
  simp only [Prog.lift, Prog.bind_op, Prog.bind_ret, Prog.pure_eq_ret]
  unfold bcastIn
  iintro ⟨⟨#HR, Hf, Hg, HO, ⟨Hd, Ht, Ht'⟩, Htk⟩, Hk⟩
  iapply (step_bcast P K c _ 2 (dev9 c) rfl rfl rfl 0) $$ [Hg Hd HO Ht Ht']
  · isplitr; · iexact HR
    isplitl [Hg]; · iexact Hg
    isplitl [Hd]; · iexact Hd
    isplitl [HO]; · iexact HO
    isplitl [Ht] <;> iassumption
  iintro ⟨Hcr, HO⟩
  iapply (step_last P K c 3 0 rfl (credit_b 0)) $$ [Htk HO]
  · isplitr; · iexact HR
    isplitl [Htk] <;> iassumption
  iintro ⟨HO, Hz, Hp⟩
  unfold dmaPay
  iapply (step_load (m := Memref.whole cc0_scratch3) c (X := bcast P (sh 0 c)) (q := fullShare)) $$ Hp; iintro Hb
  unfold run
  iapply (wp_load 𝒱₀ (c : Thread nD τ) none Set.univ (m := oM) (Finset.subset_univ _)) $$ Hf; iintro Hf
  iapply (step_put c (sh 0 c) (off4 c 0) f) $$ Hf; iintro Hf
  unfold run; rw [wp_ret]; imodintro
  iapply Hk
  isplitl [Hf]; · iexact Hf
  isplitl [Hcr]; · iexact Hcr
  isplitl [Hz]; · iexact Hz
  unfold some_
  isplitl [Hb]; · iexists _; iexact Hb
  iexact HO

/-- Part 10: the other two peers' reduced chunks received. -/
theorem part10_run {Kt : _ → sProp 𝕄} (v2 v308) (f : (cc0_stg4_0 : Ref sig .tc).ty.Contents (Elt F)) :
    iprop((recs P (bcast P) K ∗ buf c cc0_stg4_0 f ∗ ow c 0 ∗ taking (F := F) c 3 1 ∗ taking (F := F) c 3 2)
      ∗ ((buf c cc0_stg4_0 (put (sh 2 c) (k0_pay27 (slab (bcast P (sh 2 c)))) (put (sh 1 c) (k0_pay26 (slab (bcast P (sh 1 c)))) f))
            ∗ semVal (dCell c 3 1) 0 ∗ semVal (dCell c 3 2) 0 ∗ some_ (F := F) c (bM 1) ∗ some_ (F := F) c (bM 2) ∗ ow c 0) -∗ Kt ⟨⟩))
      ⊢ run c (k0_part10 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            c v2 v308) Kt := by
  unfold run
  simp only [k0_part10_eq_skeleton]; unfold k0_part10_skel
  simp only [Prog.lift, Prog.bind_op, Prog.bind_ret, Prog.pure_eq_ret]
  iintro ⟨⟨#HR, Hf, HO, Htk1, Htk2⟩, Hk⟩
  iapply (step_last P K c 3 1 rfl (credit_b 1)) $$ [Htk1 HO]
  · isplitr; · iexact HR
    isplitl [Htk1] <;> iassumption
  iintro ⟨HO, Hz1, Hp⟩
  unfold dmaPay
  iapply (step_load (m := Memref.whole cc0_scratch3) c (X := bcast P (sh 1 c)) (q := fullShare)) $$ Hp; iintro Hb1
  unfold run
  iapply (wp_load 𝒱₀ (c : Thread nD τ) none Set.univ (m := oM) (Finset.subset_univ _)) $$ Hf; iintro Hf
  iapply (step_put c (sh 1 c) (off4 c 1) f) $$ Hf; iintro Hf
  iapply (step_last P K c 3 2 rfl (credit_b 2)) $$ [Htk2 HO]
  · isplitr; · iexact HR
    isplitl [Htk2] <;> iassumption
  iintro ⟨HO, Hz2, Hp⟩
  unfold dmaPay
  iapply (step_load (m := Memref.whole cc0_scratch3) c (X := bcast P (sh 2 c)) (q := fullShare)) $$ Hp; iintro Hb2
  unfold run
  iapply (wp_load 𝒱₀ (c : Thread nD τ) none Set.univ (m := oM) (Finset.subset_univ _)) $$ Hf; iintro Hf
  iapply (step_put c (sh 2 c) (off4 c 2) _) $$ Hf; iintro Hf
  unfold run; rw [wp_ret]; imodintro
  iapply Hk
  isplitl [Hf]; · iexact Hf
  isplitl [Hz1]; · iexact Hz1
  isplitl [Hz2]; · iexact Hz2
  unfold some_
  isplitl [Hb1]; · iexists _; iexact Hb1
  isplitl [Hb2]; · iexists _; iexact Hb2
  iexact HO

/-- Part 11: the sends waited for, all but the last. -/
theorem part11_run {Kt : _ → sProp 𝕄} :
    iprop((recs P (bcast P) K ∗ ow c 0 ∗ taking (F := F) c 0 0 ∗ taking (F := F) c 0 1 ∗ taking (F := F) c 0 2
          ∗ taking (F := F) c 2 0 ∗ taking (F := F) c 2 1)
      ∗ ((ow c 0 ∗ (semVal (dCell c 0 0) 0 ∗ semVal (dCell c 0 1) 0 ∗ semVal (dCell c 0 2) 0) ∗ (semVal (dCell c 2 0) 0 ∗ semVal (dCell c 2 1) 0)
          ∗ (some_ (F := F) c (pM (sh 0 c)) ∗ some_ (F := F) c (pM (sh 1 c)) ∗ some_ (F := F) c (pM (sh 2 c)))
          ∗ ((((c : Thread nD τ).loc cc0_scratch2) ↦{third 0} bcast P c) ∗ (((c : Thread nD τ).loc cc0_scratch2) ↦{third 1} bcast P c)))
          -∗ Kt ⟨⟩))
      ⊢ run c (k0_part11 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7
            c) Kt := by
  unfold run
  simp only [k0_part11_eq_skeleton]; unfold k0_part11_skel
  simp only [Prog.lift, Prog.bind_op, Prog.bind_ret, Prog.pure_eq_ret]
  iintro ⟨⟨#HR, HO, Hk0, Hk1, Hk2, Hk3, Hk4⟩, Hk⟩
  iapply (step_last P K c 0 0 rfl credit_slot) $$ [Hk0 HO]
  · isplitr; · iexact HR
    isplitl [Hk0] <;> iassumption
  iintro ⟨HO, Hz0, Hp0⟩
  iapply (step_last P K c 0 1 rfl credit_slot) $$ [Hk1 HO]
  · isplitr; · iexact HR
    isplitl [Hk1] <;> iassumption
  iintro ⟨HO, Hz1, Hp1⟩
  iapply (step_last P K c 0 2 rfl credit_slot) $$ [Hk2 HO]
  · isplitr; · iexact HR
    isplitl [Hk2] <;> iassumption
  iintro ⟨HO, Hz2, Hp2⟩
  iapply (step_last P K c 2 0 rfl rfl) $$ [Hk3 HO]
  · isplitr; · iexact HR
    isplitl [Hk3] <;> iassumption
  iintro ⟨HO, Hz3, Hp3⟩
  iapply (step_last P K c 2 1 rfl rfl) $$ [Hk4 HO]
  · isplitr; · iexact HR
    isplitl [Hk4] <;> iassumption
  iintro ⟨HO, Hz4, Hp4⟩
  unfold run; rw [wp_ret]; imodintro
  iapply Hk
  isplitl [HO]; · iexact HO
  isplitl [Hz0 Hz1 Hz2]
  · isplitl [Hz0]; · iexact Hz0
    isplitl [Hz1] <;> iassumption
  isplitl [Hz3 Hz4]
  · isplitl [Hz3] <;> iassumption
  isplitl [Hp0 Hp1 Hp2]
  · unfold dmaPay some_
    isplitl [Hp0]; · iexists _; iexact Hp0
    isplitl [Hp1]; · iexists _; iexact Hp1
    iexists _; iexact Hp2
  rw [← sPts, ← sPts]
  unfold dmaPay
  isplitl [Hp3]; · iexact Hp3
  iexact Hp4

end Body

end Cert.Moe

end
-- ==== Proof.Slots.lean ====
/-
# Buffers as their slots

A scratch buffer held outright is its slots held outright, each at some contents; and back.
-/
module

public import proofs.«01_k».proof.Proof.Parts
public import Idealize.ShloMosaic.Lib.Ring

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
/-- A buffer whose elements are split among finitely many slots. -/
theorem slots_eq {T : Type} [Fintype T] [DecidableEq T] (c : Dev nD) (b : Ref sig .tc) (M : T → Memref sig .tc .vmem S256x512 .bf16)
    (Kt : T → Finset b.ty.Idx)
    (hM : ∀ t, some_ (F := F) c (M t) ⊢ iprop(∃ f : Buf (Elt F) ((c : Thread nD τ).loc b), ((c : Thread nD τ).loc b) ↦[Kt t]{fullShare} f))
    (hM' : ∀ t (f : Buf (Elt F) ((c : Thread nD τ).loc b)), ((((c : Thread nD τ).loc b) ↦[Kt t]{fullShare} f : sProp 𝕄)) ⊢ some_ (F := F) c (M t))
    (f₀ : Buf (Elt F) ((c : Thread nD τ).loc b)) (hd : ∀ t t', t ≠ t' → Disjoint (Kt t) (Kt t')) (hc : (Finset.univ : Finset T).biUnion Kt = Finset.univ) :
    (iprop(∃ f, buf (F := F) c b f)) = bigSep Finset.univ fun t => some_ (F := F) c (M t) := by
  refine BI.equiv_iff.mp ⟨?_, ?_⟩
  · have h (f : Buf (Elt F) ((c : Thread nD τ).loc b)) : buf c b f ⊢ bigSep Finset.univ fun t => some_ (F := F) c (M t) := by
      show (((c : Thread nD τ).loc b) ↦[Finset.univ]{fullShare} f : sProp 𝕄) ⊢ _
      rw [← hc, pointsTo_biUnion (ℓ := (c : Thread nD τ).loc b) Finset.univ Kt fun t _ t' _ h => hd t t' h]
      exact bigSep_mono fun t _ => hM' t f
    exact (show iprop(∃ f, buf (F := F) c b f) ⊢ _ by iintro ⟨%f, H⟩; iapply (h f); iexact H)
  · have h1 : (bigSep Finset.univ fun t => some_ (F := F) c (M t))
        ⊢ bigSep Finset.univ fun t => iprop(∃ f : Buf (Elt F) ((c : Thread nD τ).loc b), ((c : Thread nD τ).loc b) ↦[Kt t]{fullShare} f) :=
      bigSep_mono fun t _ => hM t
    exact (show (bigSep Finset.univ fun t => some_ (F := F) c (M t)) ⊢ iprop(∃ f, buf (F := F) c b f) by
      iintro H
      ihave H1 := h1 $$ H
      haveI : Nonempty (Buf (Elt F) ((c : Thread nD τ).loc b)) := ⟨f₀⟩
      ihave H2 := (BI.bigSep_exists_pi Finset.univ (fun t (f : Buf (Elt F) ((c : Thread nD τ).loc b)) =>
        (((c : Thread nD τ).loc b) ↦[Kt t]{fullShare} f : sProp 𝕄))) $$ H1
      icases H2 with ⟨%fs, H2⟩
      ihave H3 := (pointsTo_biUnion_join Finset.univ Kt fs f₀ (fun t _ t' _ h => hd t t' h)) $$ H2
      icases H3 with ⟨%g, -, H3⟩
      iexists g
      rw [hc]
      iexact H3)

omit [FloatOps F] in
/-- The slots of a buffer are apart and fill it. -/
theorem apart4 {j j' : Fin 4} (h : j ≠ j') : Disjoint (rect4 j).set (rect4 j').set :=
  Ring.lead_disjoint (s := S4x256x512) (NB := 4) 0 1 (fun j => ![j.val, 0, 0]) S1x256x512.size slot4 (fun b => (Nat.one_mul _).symm) rfl j j' h
omit [FloatOps F] in
theorem apart3 {j j' : Fin 3} (h : j ≠ j') : Disjoint (rect3 j).set (rect3 j').set :=
  Ring.lead_disjoint (s := S3x256x512) (NB := 3) 0 1 (fun j => ![j.val, 0, 0]) S1x256x512.size slot3 (fun b => (Nat.one_mul _).symm) rfl j j' h
omit [FloatOps F] in
theorem cover4 : Finset.univ.biUnion (fun k => (rect4 k).set) = Finset.univ := by
  refine Ring.lead_cover (s := S4x256x512) (NB := 4) 0 1 (fun j => ![j.val, 0, 0]) S1x256x512.size slot4 (fun b => (Nat.one_mul _).symm) ?_ rfl ?_ rfl
  · intro b a ha; fin_cases a
    · exact absurd rfl ha
    · rfl
    · rfl
  · intro a ha; fin_cases a
    · exact absurd rfl ha
    · rfl
    · rfl
omit [FloatOps F] in
theorem cover3 : Finset.univ.biUnion (fun k => (rect3 k).set) = Finset.univ := by
  refine Ring.lead_cover (s := S3x256x512) (NB := 3) 0 1 (fun j => ![j.val, 0, 0]) S1x256x512.size slot3 (fun b => (Nat.one_mul _).symm) ?_ rfl ?_ rfl
  · intro b a ha; fin_cases a
    · exact absurd rfl ha
    · rfl
    · rfl
  · intro a ha; fin_cases a
    · exact absurd rfl ha
    · rfl
    · rfl
omit [FloatOps F] in
/-- The places of a slot of each buffer. -/
theorem pM_set (j : Fin 4) : (pM j).view.set = (rect4 j).set :=
  (Memref.set_view_squeeze _ _).trans (View.set_slice_whole cc0_scratch0 (rect4 j))
omit [FloatOps F] in
theorem rM_set (j : Fin 3) : (rM j).view.set = (rect3 j).set :=
  (Memref.set_view_squeeze _ _).trans (View.set_slice_whole cc0_scratch1 (rect3 j))
omit [FloatOps F] in
theorem bM_set (j : Fin 3) : (bM j).view.set = (rect3 j).set :=
  (Memref.set_view_squeeze _ _).trans (View.set_slice_whole cc0_scratch3 (rect3 j))

/-- Some value, where one is called for. -/
def some0 : F .bf16 := FloatOps.ofBits .bf16 0#16

/-- The buffer of partials as its four slots, -/
theorem pbuf_slots (c : Dev nD) : (iprop(∃ f, buf (F := F) c cc0_scratch0 f))
    = iprop(some_ (F := F) c (pM 0) ∗ some_ (F := F) c (pM 1) ∗ some_ (F := F) c (pM 2) ∗ some_ (F := F) c (pM 3)) := by
  refine (slots_eq c cc0_scratch0 pM (fun j => (rect4 j).set) (fun j => ?_) (fun j f => ?_) (fun _ => some0) (fun j j' h => apart4 h) cover4).trans
    (bigSep_univ_eq_bigSepL [0, 1, 2, 3] (by decide) (by decide) _)
  · rw [← pM_set]; unfold some_ owns; iintro ⟨%X, %f, -, H⟩; iexists f; iexact H
  · rw [← pM_set]; unfold some_ owns; iintro H; iexists _; iexists f; isplitr; · ipureintro; rfl
    iexact H

/-- the landing buffer of partials as its three, -/
theorem rbuf_slots (c : Dev nD) : (iprop(∃ f, buf (F := F) c cc0_scratch1 f))
    = iprop(some_ (F := F) c (rM 0) ∗ some_ (F := F) c (rM 1) ∗ some_ (F := F) c (rM 2)) := by
  refine (slots_eq c cc0_scratch1 rM (fun j => (rect3 j).set) (fun j => ?_) (fun j f => ?_) (fun _ => some0) (fun j j' h => apart3 h) cover3).trans
    (bigSep_univ_eq_bigSepL [0, 1, 2] (by decide) (by decide) _)
  · rw [← rM_set]; unfold some_ owns; iintro ⟨%X, %f, -, H⟩; iexists f; iexact H
  · rw [← rM_set]; unfold some_ owns; iintro H; iexists _; iexists f; isplitr; · ipureintro; rfl
    iexact H

/-- and that of results as its three. -/
theorem bbuf_slots (c : Dev nD) : (iprop(∃ f, buf (F := F) c cc0_scratch3 f))
    = iprop(some_ (F := F) c (bM 0) ∗ some_ (F := F) c (bM 1) ∗ some_ (F := F) c (bM 2)) := by
  refine (slots_eq c cc0_scratch3 bM (fun j => (rect3 j).set) (fun j => ?_) (fun j f => ?_) (fun _ => some0) (fun j j' h => apart3 h) cover3).trans
    (bigSep_univ_eq_bigSepL [0, 1, 2] (by decide) (by decide) _)
  · rw [← bM_set]; unfold some_ owns; iintro ⟨%X, %f, -, H⟩; iexists f; iexact H
  · rw [← bM_set]; unfold some_ owns; iintro H; iexists _; iexists f; isplitr; · ipureintro; rfl
    iexact H

end Cert.Moe

end
-- ==== Proof.Body.lean ====
/-
# The kernel's body, whole
-/
module

public import proofs.«01_k».proof.Proof.Slots

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole
variable (P : Dev nD → Dev nD → S256x512.Idx → Elt F .bf16) (K : Dev nD × Fin 13 → ℕ) (c : Dev nD)

/-- The tokens of the duties device `c` pays to or through peer `s`: the barrier, the chunk's two ends, the result's two ends. -/
def payToks (s : Fin 3) : sProp 𝕄 :=
  iprop(dutyTok ER (barCell (sh s c)) 0 s ∗ dutyTok ER (dCell c 0 s) 0 0 ∗ dutyTok ER (dCell (sh s c) 1 s.rev) 0 0
    ∗ dutyTok ER (dCell c 2 s) 0 0 ∗ dutyTok ER (dCell (sh s c) 3 s.rev) 0 0)
/-- The waiting positions of device `c` on its transfer cells of number `s`. -/
def stands (s : Fin 3) : sProp 𝕄 :=
  iprop(atPos ER (dCell c 0 s) 0 ∅ 0 ∗ atPos ER (dCell c 1 s) 0 ∅ 0 ∗ atPos ER (dCell c 2 s) 0 ∅ 0 ∗ atPos ER (dCell c 3 s) 0 ∅ 0)
/-- The credit for what peer `s` sends device `c`. -/
def dues (s : Fin 3) : sProp 𝕄 := iprop(cred (tallyAt (dCell c 1 s) () N) ∗ cred (tallyAt (dCell c 3 s) () N))
/-- Its transfer cells of number `s`, spent. -/
def spent (s : Fin 3) : sProp 𝕄 :=
  iprop(semVal (dCell c 0 s) 0 ∗ semVal (dCell c 1 s) 0 ∗ semVal (dCell c 2 s) 0 ∗ semVal (dCell c 3 s) 0)

/-- What device `c` starts the exchange with. -/
def opening : sProp 𝕄 := iprop((payToks (F := F) c 0 ∗ payToks (F := F) c 1 ∗ payToks (F := F) c 2) ∗ (stands (F := F) c 0 ∗ stands (F := F) c 1 ∗ stands (F := F) c 2)
  ∗ (dues (F := F) c 0 ∗ dues (F := F) c 1 ∗ dues (F := F) c 2) ∗ cred (tallyAt (barCell c) () 3) ∗ atPos ER (barCell c) 0 ∅ 0)
/-- Its scratch buffers. -/
def scratch : sProp 𝕄 := iprop((∃ f, buf (F := F) c cc0_scratch0 f) ∗ (∃ f, buf (F := F) c cc0_scratch1 f)
  ∗ (∃ f, buf (F := F) c cc0_scratch2 f) ∗ (∃ f, buf (F := F) c cc0_scratch3 f))

variable (x : Vec F S1024x256 .bf16) (r : Vec F S256x16 .bf16) (i : Vec F S1024x2 .i32) (w : Vec F S4x256x512 .bf16)

/-- The four staged inputs. -/
def inputs : sProp 𝕄 := iprop(buf c cc0_stg0_0 x ∗ buf c cc0_stg1_0 r ∗ buf c cc0_stg2_0 i ∗ buf c cc0_stg3_0 w)

/-- The body, from its tokens, buffers and inputs to the result with every semaphore at zero. -/
theorem body_run (hP : ∀ j, P c j = part x r i w c j) {Q : PUnit → sProp 𝕄} :
    iprop((recs P (bcast P) K ∗ ow c (owed0 c) ∗ opening (F := F) c ∗ scratch (F := F) c ∗ inputs c x r i w ∗ (∃ f, buf (F := F) c cc0_stg4_0 f))
      ∗ ((ow c 0 ∗ semVal (barCell c) 0 ∗ (spent (F := F) c 0 ∗ spent (F := F) c 1 ∗ spent (F := F) c 2) ∗ scratch (F := F) c
          ∗ inputs c x r i w ∗ buf c cc0_stg4_0 (result P c)) -∗ Q ⟨⟩))
      ⊢ run c (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Q := by
  unfold opening scratch inputs run payToks stands dues
  rw [cc0_body_eq_skeleton]; unfold cc0_body_skel
  iintro ⟨⟨#HR, HO, ⟨⟨⟨tB0, tS0, tR0, tT0, tC0⟩, ⟨tB1, tS1, tR1, tT1, tC1⟩, ⟨tB2, tS2, tR2, tT2, tC2⟩⟩,
      ⟨⟨a00, a10, a20, a30⟩, ⟨a01, a11, a21, a31⟩, ⟨a02, a12, a22, a32⟩⟩, ⟨⟨d10, d30⟩, ⟨d11, d31⟩, ⟨d12, d32⟩⟩, cB, aB⟩,
      ⟨Hp, Hr, Hs, Hb⟩, ⟨Ix, Ir, Ii, Iw⟩, ⟨%f, Hf⟩⟩, Hk⟩
  ihave Hp' := (Entails.of_eq (pbuf_slots (F := F) c)) $$ Hp
  icases Hp' with ⟨p0, p1, p2, p3⟩
  ihave Hr' := (Entails.of_eq (rbuf_slots (F := F) c)) $$ Hr
  icases Hr' with ⟨r0, r1, r2⟩
  ihave Hb' := (Entails.of_eq (bbuf_slots (F := F) c)) $$ Hb
  icases Hb' with ⟨b0, b1, b2⟩
  rw [wp_bind]
  iapply (part1_run P K x r c)
  isplitl [HO tB0 tB1 tB2 r0 r1 r2 b0 b1 b2 cB aB Ix Ir]
  · isplitr; · iexact HR
    isplitl [HO]; · iexact HO
    isplitl [tB0 tB1 tB2]
    · isplitl [tB0]; · iexact tB0
      isplitl [tB1] <;> iassumption
    isplitl [r0 r1 r2 b0 b1 b2]
    · unfold slots
      isplitl [r0 b0]
      · isplitl [r0] <;> iassumption
      isplitl [r1 b1]
      · isplitl [r1] <;> iassumption
      isplitl [r2] <;> iassumption
    isplitl [cB]; · iexact cB
    isplitl [aB]; · iexact aB
    isplitl [Ix] <;> iassumption
  iintro ⟨HO, zB, ⟨pay0, pay1, pay2⟩, Ix, Ir⟩
  rw [wp_bind]
  iapply (part2_run x r i w c)
  isplitl [Ii Iw]
  · isplitl [Ii] <;> iassumption
  iintro ⟨Ii, Iw⟩
  rw [wp_bind]
  iapply (part3_run c)
  isplitl [p0]; · iexact p0
  iintro p0
  rw [wp_bind]
  iapply (part4_run c)
  isplitl [p1 p2]
  · isplitl [p1] <;> iassumption
  iintro ⟨p1, p2⟩
  have h0 := (hP 0).symm; have h1 := (hP 1).symm; have h2 := (hP 2).symm
  unfold part chunk at h0 h1 h2
  rw [h0, h1, h2]
  unfold barPay slots
  icases pay0 with ⟨q0, u0⟩
  icases pay1 with ⟨q1, u1⟩
  icases pay2 with ⟨q2, u2⟩
  rw [wp_bind]
  iapply (part5_run P K c _ _ _ _ _ _ _ _ _ (bcast P) (hP 3).symm (owedC c + tR c 2 + tR c 1))
  isplitl [p0 p1 p2 p3 HO q2 tS0 tR0]
  · isplitr; · iexact HR
    isplitl [p3]; · iexact p3
    isplitl [p0]; · iexact p0
    isplitl [p1]; · iexact p1
    isplitl [p2]; · iexact p2
    isplitl [HO]; · iexact HO
    unfold chunkIn
    isplitl [q2]; · iexact q2
    isplitl [tS0] <;> iassumption
  iintro %v5 ⟨s00, HO, pc, p1, p2⟩
  rw [wp_bind]
  iapply (part6_run P K c _ _ (owedC c))
  isplitl [pc p1 p2 HO q1 tS1 tR1 q0 tS2 tR2]
  · isplitr; · iexact HR
    isplitl [pc]; · iexact pc
    isplitl [p1]; · iexact p1
    isplitl [p2]; · iexact p2
    isplitl [HO]; · iexact HO
    unfold chunkIn
    isplitl [q1 tS1 tR1]
    · isplitl [q1]; · iexact q1
      isplitl [tS1] <;> iassumption
    isplitl [q0]; · iexact q0
    isplitl [tS2] <;> iassumption
  iintro ⟨s01, s02, HO, pc⟩
  rw [wp_bind]
  iapply (part7_run P K c _ _ (above_owedC (by omega) c))
  isplitl [HO d10 a10 d11 a11 d12 a12]
  · unfold taking
    isplitr; · iexact HR
    isplitl [HO]; · iexact HO
    isplitl [d10 a10]
    · isplitl [d10] <;> iassumption
    isplitl [d11 a11]
    · isplitl [d11] <;> iassumption
    isplitl [d12] <;> iassumption
  iintro ⟨HO, ⟨z10, z11, z12⟩, ⟨r0, r1, r2⟩⟩
  rw [wp_bind]
  iapply (part8_run P K c _ f (0 + tC c 2))
  isplitl [Hf Hs HO u2 tT0 tC0 u1 tT1 tC1]
  · unfold bcastIn
    isplitr; · iexact HR
    isplitl [Hf]; · iexact Hf
    isplitl [Hs]; · iexact Hs
    isplitl [HO]; · iexact HO
    isplitl [u2 tT0 tC0]
    · isplitl [u2]; · iexact u2
      isplitl [tT0] <;> iassumption
    isplitl [u1]; · iexact u1
    isplitl [tT1] <;> iassumption
  iintro %v8 ⟨Hf, g2, s20, s21, HO⟩
  rw [wp_bind]
  iapply (part9_run P K c _ _ _)
  isplitl [Hf g2 HO u0 tT2 tC2 d30 a30]
  · unfold bcastIn taking
    isplitr; · iexact HR
    isplitl [Hf]; · iexact Hf
    isplitl [g2]; · iexact g2
    isplitl [HO]; · iexact HO
    isplitl [u0 tT2 tC2]
    · isplitl [u0]; · iexact u0
      isplitl [tT2] <;> iassumption
    isplitl [d30] <;> iassumption
  iintro %v9 ⟨Hf, s22, z30, b0, HO⟩
  rw [wp_bind]
  iapply (part10_run P K c _ _ _)
  isplitl [Hf HO d31 a31 d32 a32]
  · unfold taking
    isplitr; · iexact HR
    isplitl [Hf]; · iexact Hf
    isplitl [HO]; · iexact HO
    isplitl [d31 a31]
    · isplitl [d31] <;> iassumption
    isplitl [d32] <;> iassumption
  iintro ⟨Hf, z31, z32, b1, b2, HO⟩
  rw [wp_bind]
  iapply (part11_run P K c)
  isplitl [HO s00 a00 s01 a01 s02 a02 s20 a20 s21 a21]
  · unfold taking
    isplitr; · iexact HR
    isplitl [HO]; · iexact HO
    isplitl [s00 a00]
    · isplitl [s00] <;> iassumption
    isplitl [s01 a01]
    · isplitl [s01] <;> iassumption
    isplitl [s02 a02]
    · isplitl [s02] <;> iassumption
    isplitl [s20 a20]
    · isplitl [s20] <;> iassumption
    isplitl [s21] <;> iassumption
  iintro ⟨HO, ⟨z00, z01, z02⟩, ⟨z20, z21⟩, ⟨p0, p1, p2⟩, ⟨g0, g1⟩⟩
  simp only [Prog.lift, Prog.bind_op, Prog.bind_ret, Prog.pure_eq_ret]
  iapply (step_last P K c 2 2 rfl rfl) $$ [s22 a22 HO]
  · unfold taking
    isplitr; · iexact HR
    isplitl [s22 a22]
    · isplitl [s22] <;> iassumption
    iexact HO
  iintro ⟨HO, z22, gl⟩
  unfold run; rw [wp_ret]; imodintro
  iapply Hk
  isplitl [HO]; · iexact HO
  isplitl [zB]; · iexact zB
  isplitl [z00 z01 z02 z10 z11 z12 z20 z21 z22 z30 z31 z32]
  · unfold spent
    isplitl [z00 z10 z20 z30]
    · isplitl [z00]; · iexact z00
      isplitl [z10]; · iexact z10
      isplitl [z20] <;> iassumption
    isplitl [z01 z11 z21 z31]
    · isplitl [z01]; · iexact z01
      isplitl [z11]; · iexact z11
      isplitl [z21] <;> iassumption
    isplitl [z02]; · iexact z02
    isplitl [z12]; · iexact z12
    isplitl [z22] <;> iassumption
  isplitl [pc p0 p1 p2 r0 r1 r2 g0 g1 gl b0 b1 b2]
  · rw [pbuf_slots, rbuf_slots, bbuf_slots, by_peers c fun j => some_ (F := F) c (pM j)]
    isplitl [pc p0 p1 p2]
    · isplitl [pc]; · unfold some_; iexists _; iexact pc
      isplitl [p0]; · iexact p0
      isplitl [p1] <;> iassumption
    isplitl [r0 r1 r2]
    · isplitl [r0]; · iexact r0
      isplitl [r1] <;> iassumption
    isplitl [g0 g1 gl]
    · iexists bcast P c
      iapply (thirds c (bcast P c)).2
      isplitl [g0]; · iexact g0
      isplitl [g1]; · iexact g1
      rw [← sPts]
      unfold dmaPay
      iexact gl
    isplitl [b0]; · iexact b0
    isplitl [b1] <;> iassumption
  isplitl [Ix Ir Ii Iw]
  · isplitl [Ix]; · iexact Ix
    isplitl [Ir]; · iexact Ir
    isplitl [Ii] <;> iassumption
  rw [← put_all P c f]
  iexact Hf

end Whole

end Cert.Moe

end
-- ==== Proof.Dats.lean ====
/-
# The kernel call's proof data

What each device's staging buffers hold before and after the body, and the body's triple in the pipeline's terms.
-/
module

public import proofs.«01_k».proof.Proof.Body

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-- The four inputs as the pipeline stages them on device `c`. -/
def xs (c : Dev nD) : Vec F S1024x256 .bf16 := (win0_0.blk (0 : Fin 1)).view.read (Elt F) ((s₀ m ρ).mem (win0_0.arr.view.loc (c : Thread nD τ)))
/-- The router device `c` reads, -/
def rs (c : Dev nD) : Vec F S256x16 .bf16 := (win0_1.blk (0 : Fin 1)).view.read (Elt F) ((s₀ m ρ).mem (win0_1.arr.view.loc (c : Thread nD τ)))
/-- the route, -/
def is (c : Dev nD) : Vec F S1024x2 .i32 := (win0_2.blk (0 : Fin 1)).view.read (Elt F) ((s₀ m ρ).mem (win0_2.arr.view.loc (c : Thread nD τ)))
/-- and its experts. -/
def ws (c : Dev nD) : Vec F S4x256x512 .bf16 := (win0_3.blk (0 : Fin 1)).view.read (Elt F) ((s₀ m ρ).mem (win0_3.arr.view.loc (c : Thread nD τ)))

/-- Chunk `j` of device `c`'s partial sums. -/
def PP (c j : Dev nD) : S256x512.Idx → Elt F .bf16 := part (xs m ρ c) (rs m ρ c) (is m ρ c) (ws m ρ c) c j

/-- Each cell's invariant, and that its only round has begun. -/
def known (K : Dev nD × Fin 13 → ℕ) : sProp 𝕄 := bigSep Finset.univ fun ck : Dev nD × Fin 13 =>
  iprop(cellInv ER (Rd (PP m ρ) (bcast (PP m ρ))) (K ck) (kcell ck) ∗ reached ER (kcell ck) 0)
instance known_persistent (K : Dev nD × Fin 13 → ℕ) : BI.Persistent (known m ρ K) := by unfold known; infer_instance

/-- The exchange's state that stays with device `c`: its tokens and its waiting positions. -/
def held (c : Dev nD) : sProp 𝕄 := iprop((payToks (F := F) c 0 ∗ payToks (F := F) c 1 ∗ payToks (F := F) c 2)
  ∗ (stands (F := F) c 0 ∗ stands (F := F) c 1 ∗ stands (F := F) c 2) ∗ atPos ER (barCell c) 0 ∅ 0)
/-- The credit for what the peers send device `c`. -/
def promised (c : Dev nD) : sProp 𝕄 := iprop((dues (F := F) c 0 ∗ dues (F := F) c 1 ∗ dues (F := F) c 2) ∗ cred (tallyAt (barCell c) () 3))

/-- What the launch leaves each device of the exchange. -/
def G' (c : Dev nD) : sProp 𝕄 := iprop(∃ K, known m ρ K ∗ held (F := F) c)
/-- The same with the credit promised to it and the levels. -/
def start (c : Dev nD) : sProp 𝕄 := iprop(G' m ρ c ∗ promised (F := F) c ∗ levAts L lv)

/-- Every semaphore of device `c` back at zero. -/
def closed (c : Dev nD) : sProp 𝕄 := iprop(semVal (barCell c) 0 ∗ (spent (F := F) c 0 ∗ spent (F := F) c 1 ∗ spent (F := F) c 2))

/-- Beside the staging buffers, before the body, -/
def Φ₀ (c : Dev nD) : sProp 𝕄 := iprop(start m ρ c ∗ scratch (F := F) c)
/-- and after it. -/
def Φ₁ (c : Dev nD) : sProp 𝕄 := iprop(scratch (F := F) c ∗ closed (F := F) c)

/-- The call's data: what each staging buffer holds after the body, and what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => rs m ρ c
    | ⟨2, _⟩ => is m ρ c
    | ⟨3, _⟩ => ws m ρ c
    | ⟨4, _⟩ => result (PP m ρ) c
  Φ t := match t with
    | ⟨0, _⟩ => Φ₀ m ρ c
    | ⟨_ + 1, _⟩ => Φ₁ (F := F) c
  q _ := fullShare
  owed t := match t with
    | ⟨0, _⟩ => owed0 c
    | ⟨_ + 1, _⟩ => 0

/-- The four inputs are fetched. -/
theorem fetched (w : Fin 5) (h : w ≠ 4) (t : Fin cfg0.N) : (cfg0.win w).fetch t = true := by
  rw [fin_N0 t]; revert h; fin_cases w <;> intro h <;> first | rfl | exact absurd rfl h

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Device `c`'s buffer `b` at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- and what it leaves. -/
def bodyPost (c : Dev nD) : sProp 𝕄 :=
  iprop(Φ₁ (F := F) c ∗ (dats m ρ 0 c).owesAt () t0_0.succ ∗ stg c cc0_stg0_0 (xs m ρ c) ∗ stg c cc0_stg1_0 (rs m ρ c)
    ∗ stg c cc0_stg2_0 (is m ρ c) ∗ stg c cc0_stg3_0 (ws m ρ c) ∗ stg c cc0_stg4_0 (result (PP m ρ) c))

/-- The body meets its data. -/
theorem sound_body (c : Dev nD) :
    bodyPre m ρ c ⊢ run c (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) (fun _ => bodyPost m ρ c) := by
  unfold bodyPre Φ₀ start G' held promised
  iintro ⟨⟨⟨⟨%K, #HK, Htok, Hst, Hat⟩, ⟨Hdue, HcB⟩, #Hlev⟩, Hscr⟩, Ho, ⟨%d0, %g0, %hg0, H0⟩, ⟨%d1, %g1, %hg1, H1⟩, ⟨%d2, %g2, %hg2, H2⟩,
    ⟨%d3, %g3, %hg3, H3⟩, ⟨%d4, %g4, %hg4, H4⟩⟩
  have e0 : g0 = xs m ρ c := by rw [hg0]; unfold Dat.before; rw [if_pos (fetched 0 (by decide) t0_0)]; rfl
  have e1 : g1 = rs m ρ c := by rw [hg1]; unfold Dat.before; rw [if_pos (fetched 1 (by decide) t0_0)]; rfl
  have e2 : g2 = is m ρ c := by rw [hg2]; unfold Dat.before; rw [if_pos (fetched 2 (by decide) t0_0)]; rfl
  have e3 : g3 = ws m ρ c := by rw [hg3]; unfold Dat.before; rw [if_pos (fetched 3 (by decide) t0_0)]; rfl
  subst e0 e1 e2 e3
  unfold Dat.owesAt Pipeline.owesWithin
  icases Ho with ⟨%W, %hW, HO⟩
  iapply (body_run (PP m ρ) K c (xs m ρ c) (rs m ρ c) (is m ρ c) (ws m ρ c) (fun _ => rfl))
  isplitl [Htok Hst Hat Hdue HcB Hscr HO H0 H1 H2 H3 H4]
  · unfold opening inputs
    isplitr
    · unfold recs
      isplitl; · unfold known; iexact HK
      iexact Hlev
    isplitl [HO]; · unfold ow; iexists W; iexact HO
    isplitl [Htok Hst Hat Hdue HcB]
    · isplitl [Htok]; · iexact Htok
      isplitl [Hst]; · iexact Hst
      isplitl [Hdue]; · iexact Hdue
      isplitl [HcB] <;> iassumption
    isplitl [Hscr]; · iexact Hscr
    isplitl [H0 H1 H2 H3]
    · isplitl [H0]; · iexact H0
      isplitl [H1]; · iexact H1
      isplitl [H2] <;> iassumption
    iexists _; iexact H4
  unfold ow inputs
  iintro ⟨⟨%W', HO⟩, Hz, Hzs, Hscr, ⟨H0, H1, H2, H3⟩, H4⟩
  unfold bodyPost Φ₁ closed
  isplitl [Hz Hzs Hscr]
  · isplitl [Hscr]; · iexact Hscr
    isplitl [Hz] <;> iassumption
  isplitl [HO]
  · unfold Dat.owesAt Pipeline.owesWithin
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.Moe

end
-- ==== Proof.Launch.lean ====
/-
# The launch

The exchange's cells, positions and tokens are minted from one element, its invariants allocated from every device's
semaphores, the tokens dealt to the devices that pay them, and the kernel's run closed.
-/
module

public import proofs.«01_k».proof.Proof.Dats
public import Idealize.ShloMosaic.Lib.Pipeline.CollectiveSegs

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own twelve transfer semaphores. -/
def osem : Fin 12 → SemLoc sig := fun k => csem k.succ
/-- The exchange's semaphores are none of the staging ones. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Different numbers are different cells. -/
theorem csem_injective : Function.Injective csem := by
  intro a b h; revert a b; decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def theCells : Finset (GSem nD τ sig) := Finset.univ.map ⟨kcell, kcell_injective⟩

/-- Which of its cells, and which duty there, the token `(s, j)` of a device is for. -/
def tokKey : Fin 3 × Fin 5 → Fin 13 × Fin 3
  | (s, 0) => (0, s) | (s, 1) => (ki 0 s, 0) | (s, 2) => (ki 1 s, 0) | (s, 3) => (ki 2 s, 0) | (s, 4) => (ki 3 s, 0)
/-- Different tokens are of different duties. -/
theorem tokKey_injective : Function.Injective tokKey := by
  intro a b h; revert a b; decide
abbrev tokOf (x : Dev nD × (Fin 3 × Fin 5)) : GSem nD τ sig × ℕ × Fin 3 := (kcell (x.1, (tokKey x.2).1), 0, (tokKey x.2).2)
theorem tokOf_injective : Function.Injective (tokOf : Dev nD × (Fin 3 × Fin 5) → GSem nD τ sig × ℕ × Fin 3) := by
  rintro ⟨c, k⟩ ⟨c', k'⟩ h
  have h1 := kcell_injective (congrArg (fun x : GSem nD τ sig × ℕ × Fin 3 => x.1) h)
  have h2 := congrArg (fun x : GSem nD τ sig × ℕ × Fin 3 => x.2.2) h
  have h3 : k = k' := tokKey_injective (Prod.ext (congrArg Prod.snd h1) h2)
  rw [show c = c' from congrArg Prod.fst h1, h3]
/-- Every token of the exchange. -/
def theToks : Finset (GSem nD τ sig × ℕ × Fin 3) := Finset.univ.map ⟨tokOf, tokOf_injective⟩

/-- The element that the run starts from. -/
def u₀ : UU := (initOf (Pipeline.cells cfgs cellOf_inj) (Pipeline.launchToks cfgs cellOf_inj), initOf theCells theToks)

/-- The tokens of device `c`'s own cells of number `s`. -/
def ownToks (c : Dev nD) (s : Fin 3) : sProp 𝕄 :=
  iprop(dutyTok ER (barCell c) 0 s ∗ dutyTok ER (dCell c 0 s) 0 0 ∗ dutyTok ER (dCell c 1 s) 0 0 ∗ dutyTok ER (dCell c 2 s) 0 0 ∗ dutyTok ER (dCell c 3 s) 0 0)
/-- All the tokens of a device's own cells. -/
def toks (c : Dev nD) : sProp 𝕄 := iprop(ownToks (F := F) c 0 ∗ ownToks (F := F) c 1 ∗ ownToks (F := F) c 2)

/-- What the launch element deals device `c`. -/
def G (c : Dev nD) : sProp 𝕄 :=
  iprop((bigSep Finset.univ fun k : Fin 13 => roundState ER (Rd (PP m ρ) (bcast (PP m ρ))) (kcell (c, k)) 0)
    ∗ (bigSep Finset.univ fun k : Fin 13 => atPos ER (kcell (c, k)) 0 ∅ 0) ∗ (bigSep Finset.univ fun k : Fin 13 => reached ER (kcell (c, k)) 0) ∗ toks (F := F) c)

omit [FloatOps F] in
/-- Products over three, five and thirteen, written out. -/
theorem over3 (Φ : Fin 3 → sProp 𝕄) : bigSep Finset.univ Φ = iprop(Φ 0 ∗ Φ 1 ∗ Φ 2) := bigSep_univ_eq_bigSepL [0, 1, 2] (by decide) (by decide) Φ
omit [FloatOps F] in
theorem over5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem over13 (Φ : Fin 13 → sProp 𝕄) : bigSep Finset.univ Φ =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- The exchange's element deals every device its share. -/
theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 13 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks (F := F) c := by
    unfold theToks; rw [bigSep_map, bigSep_univ_prod]
    refine bigSep_congr fun c _ => ?_
    rw [bigSep_univ_prod, over3, over5, over5, over5]; rfl
  iintro HX
  imod (Rounds.fund ER (Rd (PP m ρ) (bcast (PP m ρ))) theCells theToks) $$ HX with ⟨Hst, Hr, Hat, Htok⟩
  imodintro
  ihave Hst' := (Entails.of_eq (hX fun g => roundState ER (Rd (PP m ρ) (bcast (PP m ρ))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores at launch and at exit -/

omit [FloatOps F] in
/-- The semaphores of a device at zero: the barrier, -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- and the transfer semaphores. -/
theorem ownSems0_eq (c : Dev nD) : (Pipeline.ownSems0 (Ix := Unit) (Name := ℕ) (U := UU) (Lvl := ℕ) (Val := Elt F) (τ := τ) osem c : sProp 𝕄)
    = iprop(semVal (dCell c 0 0) 0 ∗ semVal (dCell c 0 1) 0 ∗ semVal (dCell c 0 2) 0 ∗ semVal (dCell c 1 0) 0 ∗ semVal (dCell c 1 1) 0 ∗ semVal (dCell c 1 2) 0
      ∗ semVal (dCell c 2 0) 0 ∗ semVal (dCell c 2 1) 0 ∗ semVal (dCell c 2 2) 0 ∗ semVal (dCell c 3 0) 0 ∗ semVal (dCell c 3 1) 0 ∗ semVal (dCell c 3 2) 0) := by
  rw [Pipeline.ownSems0_eq_of_list c osem [0, 1, 2, 3, 4, 5, 6, 7, 8, 9, 10, 11] (by decide) (by decide)]; rfl

omit [FloatOps F] in
/-- At the start they are the thirteen cells', -/
theorem sems_opened (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, over13]
  iintro ⟨HO, HB⟩
  isplitl [HB]; · iexact HB
  iexact HO

/-- and at the end they are given back. -/
theorem sems_closed (c : Dev nD) : closed (F := F) c
    ⊢ iprop(unscopedSems0 c ∗ Pipeline.ownSems0 (Ix := Unit) (Name := ℕ) (U := UU) (Lvl := ℕ) (Val := Elt F) (τ := τ) osem c) := by
  rw [ownSems0_eq, unscopedSems0_eq]
  unfold closed spent
  iintro ⟨HB, ⟨A0, B0, C0, D0⟩, ⟨A1, B1, C1, D1⟩, A2, B2, C2, D2⟩
  isplitl [HB]; · iexact HB
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  isplitl [C2]; · iexact C2
  isplitl [D0]; · iexact D0
  isplitl [D1] <;> iassumption

/-- A device's waiting positions by peer. -/
theorem positions (c : Dev nD) : (bigSep Finset.univ fun k : Fin 13 => (atPos ER (kcell (c, k)) 0 ∅ 0 : sProp 𝕄))
    ⊢ iprop((stands (F := F) c 0 ∗ stands (F := F) c 1 ∗ stands (F := F) c 2) ∗ atPos ER (barCell c) 0 ∅ 0) := by
  rw [over13]
  unfold stands
  iintro ⟨HB, A0, A1, A2, B0, B1, B2, C0, C1, C2, D0, D1, D2⟩
  isplitr [HB]
  · isplitl [A0 B0 C0 D0]
    · isplitl [A0]; · iexact A0
      isplitl [B0]; · iexact B0
      isplitl [C0]; · iexact C0
      iexact D0
    isplitl [A1 B1 C1 D1]
    · isplitl [A1]; · iexact A1
      isplitl [B1]; · iexact B1
      isplitl [C1]; · iexact C1
      iexact D1
    isplitl [A2]; · iexact A2
    isplitl [B2]; · iexact B2
    isplitl [C2]; · iexact C2
    iexact D2
  iexact HB

/-! ## Invariants, and the tokens dealt -/

/-- A device's cells become invariants. -/
theorem device_opened (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 13 => iprop(∃ κ : ℕ, cellInv ER (Rd (PP m ρ) (bcast (PP m ρ))) κ (kcell (c, k))))
          ∗ (bigSep Finset.univ fun k : Fin 13 => reached ER (kcell (c, k)) 0)
          ∗ ((stands (F := F) c 0 ∗ stands (F := F) c 1 ∗ stands (F := F) c 2) ∗ atPos ER (barCell c) 0 ∅ 0) ∗ toks (F := F) c) := by
  unfold G
  iintro ⟨Hos, Hus, Hst, Hat, Hr, Htok⟩
  ihave Hv := (sems_opened (F := F) c) $$ [Hos Hus]
  · isplitl [Hos] <;> iassumption
  imod (show iprop((bigSep Finset.univ fun k : Fin 13 => semVal (kcell (c, k)) 0) ∗ bigSep Finset.univ fun k : Fin 13 => roundState ER (Rd (PP m ρ) (bcast (PP m ρ))) (kcell (c, k)) 0)
      ⊢ (|={Set.univ}=> bigSep Finset.univ fun k : Fin 13 => iprop(∃ κ : ℕ, cellInv ER (Rd (PP m ρ) (bcast (PP m ρ))) κ (kcell (c, k))) : sProp 𝕄) from by
        rw [← bigSep_sep']
        exact (bigSep_mono fun k _ => (Rounds.body_intro ER (Rd (PP m ρ) (bcast (PP m ρ))) (kcell (c, k))).trans inv_alloc).trans (bigSep_fupd _ _)) $$ [Hv Hst] with Hinv
  · isplitl [Hv] <;> iassumption
  ihave Hp := (positions (F := F) c) $$ Hat
  imodintro
  isplitl [Hinv]; · iexact Hinv
  isplitl [Hr]; · iexact Hr
  isplitl [Hp] <;> iassumption

/-- Number `s`: the barrier's token and the two arrivals' tokens go to the device that pays them. -/
theorem dealt (s : Fin 3) : (bigSep Finset.univ fun c : Dev nD => (ownToks c s : sProp 𝕄))
    ⊢ iprop((bigSep Finset.univ fun c : Dev nD => dutyTok ER (barCell (sh s c)) 0 s) ∗ (bigSep Finset.univ fun c : Dev nD => dutyTok ER (dCell c 0 s) 0 0)
      ∗ (bigSep Finset.univ fun c : Dev nD => dutyTok ER (dCell (sh s.rev c) 1 s) 0 0) ∗ (bigSep Finset.univ fun c : Dev nD => dutyTok ER (dCell c 2 s) 0 0)
      ∗ (bigSep Finset.univ fun c : Dev nD => dutyTok ER (dCell (sh s.rev c) 3 s) 0 0)) := by
  unfold ownToks
  rw [bigSep_sep', bigSep_sep', bigSep_sep', bigSep_sep',
    bigSep_univ_equiv (shE s) (fun c : Dev nD => (dutyTok ER (barCell c) 0 s : sProp 𝕄)),
    bigSep_univ_equiv (shE s.rev) (fun c : Dev nD => (dutyTok ER (dCell c 1 s) 0 0 : sProp 𝕄)),
    bigSep_univ_equiv (shE s.rev) (fun c : Dev nD => (dutyTok ER (dCell c 3 s) 0 0 : sProp 𝕄))]
  exact Entails.of_eq rfl

/-- The tokens go from the cells' owners to the payers. -/
theorem dealt_all : (bigSep Finset.univ fun c : Dev nD => (toks c : sProp 𝕄))
    ⊢ bigSep Finset.univ fun c : Dev nD => iprop(payToks (F := F) c 0 ∗ payToks (F := F) c 1 ∗ payToks (F := F) c 2) := by
  unfold toks payToks
  simp only [bigSep_sep']
  iintro ⟨H0, H1, H2⟩
  ihave H0 := (dealt (F := F) 0) $$ H0
  ihave H1 := (dealt (F := F) 1) $$ H1
  ihave H2 := (dealt (F := F) 2) $$ H2
  icases H0 with ⟨A0, B0, C0, D0, E0⟩
  icases H1 with ⟨A1, B1, C1, D1, E1⟩
  icases H2 with ⟨A2, B2, C2, D2, E2⟩
  isplitl [A0 B0 C2 D0 E2]
  · isplitl [A0]; · iexact A0
    isplitl [B0]; · iexact B0
    isplitl [C2]; · iexact C2
    isplitl [D0]; · iexact D0
    iexact E2
  isplitl [A1 B1 C1 D1 E1]
  · isplitl [A1]; · iexact A1
    isplitl [B1]; · iexact B1
    isplitl [C1]; · iexact C1
    isplitl [D1]; · iexact D1
    iexact E1
  isplitl [A2]; · iexact A2
  isplitl [B2]; · iexact B2
  isplitl [C0]; · iexact C0
  isplitl [D2]; · iexact D2
  iexact E0

omit [FloatOps F] in
/-- A lasting fact is handed to every part. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' records and tokens, dealt. -/
theorem regroup :
    (bigSep Finset.univ fun c : Dev nD => iprop((bigSep Finset.univ fun k : Fin 13 => iprop(∃ κ : ℕ, cellInv ER (Rd (PP m ρ) (bcast (PP m ρ))) κ (kcell (c, k))))
          ∗ (bigSep Finset.univ fun k : Fin 13 => reached ER (kcell (c, k)) 0)
          ∗ ((stands (F := F) c 0 ∗ stands (F := F) c 1 ∗ stands (F := F) c 2) ∗ atPos ER (barCell c) 0 ∅ 0) ∗ toks (F := F) c) : sProp 𝕄)
      ⊢ bigSep Finset.univ (G' m ρ) := by
  rw [bigSep_sep', bigSep_sep', bigSep_sep', ← bigSep_univ_prod (fun ck : Dev nD × Fin 13 => iprop(∃ κ : ℕ, cellInv ER (Rd (PP m ρ) (bcast (PP m ρ))) κ (kcell ck))),
    ← bigSep_univ_prod (fun ck : Dev nD × Fin 13 => (reached ER (kcell ck) 0 : sProp 𝕄))]
  iintro ⟨HI, #HR, Hat, Htok⟩
  ihave HK := (BI.bigSep_exists_pi Finset.univ (fun (ck : Dev nD × Fin 13) (κ : ℕ) => (cellInv ER (Rd (PP m ρ) (bcast (PP m ρ))) κ (kcell ck) : sProp 𝕄))) $$ HI
  icases HK with ⟨%K, #HI⟩
  ihave Htk := (dealt_all (F := F)) $$ Htok
  iapply (each_with (R := known m ρ K) (Φ := fun c => held (F := F) c) fun c _ => by
    unfold G'; iintro ⟨#HK, HH⟩; iexists K; isplitr; · iexact HK
    iexact HH)
  isplitr
  · unfold known; rw [bigSep_sep']; isplitl; · iexact HI
    iexact HR
  · unfold held
    iapply (Entails.of_eq (bigSep_sep' Finset.univ (fun c : Dev nD => iprop(payToks (F := F) c 0 ∗ payToks (F := F) c 1 ∗ payToks (F := F) c 2))
      (fun c : Dev nD => iprop((stands (F := F) c 0 ∗ stands (F := F) c 1 ∗ stands (F := F) c 2) ∗ atPos ER (barCell c) 0 ∅ 0))).symm)
    isplitl [Htk]; · iexact Htk
    iexact Hat

/-- The opening of all devices together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_opened m ρ c).trans (bigSep_fupd _ _)).trans (BI.fupd_mono (regroup m ρ))

/-! ## Credit -/

/-- What peer `s` owes a device is the device's credit. -/
theorem credit_from (s : Fin 3) (c : Dev nD) : (iprop(Pipeline.launchCred (fun d => tB d s) c ∗ Pipeline.launchCred (fun d => tR d s) c ∗ Pipeline.launchCred (fun d => tC d s) c) : sProp 𝕄)
    ⊢ iprop(cred (tallyAt (barCell c) () 1) ∗ dues (F := F) c s.rev) := by
  unfold dues
  iintro ⟨HB, HR, HC⟩
  isplitl [HB]
  · iapply (Pipeline.launchCred_tallyAt (.reg barS) (sh s) (sh s.rev) (sh_rev' s) (sh_rev s) () 1 c); unfold tB; iexact HB
  isplitl [HR]
  · iapply (Pipeline.launchCred_tallyAt (.dma (qn 1 s.rev)) (sh s) (sh s.rev) (sh_rev' s) (sh_rev s) () N c); unfold tR; iexact HR
  iapply (Pipeline.launchCred_tallyAt (.dma (qn 3 s.rev)) (sh s) (sh s.rev) (sh_rev' s) (sh_rev s) () N c); unfold tC; iexact HC

/-- All that is owed at launch, as each device's credit. -/
theorem launchCred_owed (c : Dev nD) : (Pipeline.launchCred owed0 c : sProp 𝕄) ⊢ promised (F := F) c := by
  have e : (Pipeline.launchCred owed0 c : sProp 𝕄) = iprop(((((((((emp ∗ Pipeline.launchCred (fun d => tC d 2) c) ∗ Pipeline.launchCred (fun d => tC d 1) c) ∗ Pipeline.launchCred (fun d => tC d 0) c)
      ∗ Pipeline.launchCred (fun d => tR d 2) c) ∗ Pipeline.launchCred (fun d => tR d 1) c) ∗ Pipeline.launchCred (fun d => tR d 0) c)
      ∗ Pipeline.launchCred (fun d => tB d 2) c) ∗ Pipeline.launchCred (fun d => tB d 1) c) ∗ Pipeline.launchCred (fun d => tB d 0) c) := by
    unfold owed0 owedR owedC
    rw [Pipeline.launchCred_add, Pipeline.launchCred_add, Pipeline.launchCred_add, Pipeline.launchCred_add, Pipeline.launchCred_add, Pipeline.launchCred_add,
      Pipeline.launchCred_add, Pipeline.launchCred_add, Pipeline.launchCred_add, Pipeline.launchCred_zero]
  have e3 : (tallyAt (barCell c) () 3 : CellTallies nD τ sig Unit) = tallyAt (barCell c) () 1 + tallyAt (barCell c) () 1 + tallyAt (barCell c) () 1 := by
    rw [tallyAt_add, tallyAt_add]
  rw [e]
  unfold promised
  iintro ⟨⟨⟨⟨⟨⟨⟨⟨⟨-, C2⟩, C1⟩, C0⟩, R2⟩, R1⟩, R0⟩, B2⟩, B1⟩, B0⟩
  ihave H0 := (credit_from (F := F) 0 c) $$ [B0 R0 C0]
  · isplitl [B0]; · iexact B0
    isplitl [R0] <;> iassumption
  ihave H1 := (credit_from (F := F) 1 c) $$ [B1 R1 C1]
  · isplitl [B1]; · iexact B1
    isplitl [R1] <;> iassumption
  ihave H2 := (credit_from (F := F) 2 c) $$ [B2 R2 C2]
  · isplitl [B2]; · iexact B2
    isplitl [R2] <;> iassumption
  icases H0 with ⟨B0, H0⟩
  icases H1 with ⟨B1, H1⟩
  icases H2 with ⟨B2, H2⟩
  isplitl [H0 H1 H2]
  · isplitl [H2]; · iexact H2
    isplitl [H1]; · iexact H1
    iexact H0
  rw [e3]
  iapply (cred_add _ _).2
  isplitl [B0 B1]
  · iapply (cred_add _ _).2; isplitl [B0] <;> iassumption
  iexact B2

/-! ## The side conditions and the run -/

/-- A device's start. -/
theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m ρ c)
      ⊢ |={Set.univ}=> iprop(start m ρ c ∗ emp) := by
  iintro ⟨-, Hlev, Hcr, -, HG⟩
  ihave Hc := (launchCred_owed (F := F) c) $$ Hcr
  imodintro
  unfold start
  isplitl
  · isplitl [HG]; · iexact HG
    isplitl [Hc] <;> iassumption
  · iempintro

/-- From a device's start to the body's. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- From the body's end to the device's. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  iintro ⟨Hr, Hz⟩
  ihave H := (sems_closed (F := F) c) $$ Hz
  icases H with ⟨HB, HO⟩
  isplitl [HB]; · iexact HB
  isplitl [HO]; · iexact HO
  iexact Hr

/-- The staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> exact Nat.le_refl 0) (by
      rcases t with ⟨_ | _, ht⟩
      · exact above_owed0 c
      · exact above_zero 0)

/-- The contents of each of the kernel's arrays after the run. -/
def finalA (c : Dev nD) (w : Fin cfg0.W) : Buf (Elt F) ((cfg0.win w).arr.view.loc (c : Thread nD τ)) := (dats m ρ 0 c).arrAt w cfg0.N

/-- How the memory ends: each window's array as the run leaves it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every weakly fair execution on the four devices ends,
    with each array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays are as they were. -/
theorem finalA_in (c : Dev nD) (w : Fin 5) (h : w ≠ 4) : finalA m ρ c w = (s₀ m ρ).mem ((cfg0.win w).arr.view.loc (c : Thread nD τ)) :=
  (dats (F := F) m ρ 0 c).arrAt_in w (by revert h; fin_cases w <;> intro h <;> first | rfl | exact absurd rfl h) _

/-- The result array's one block, read back, is what the body left. -/
theorem finalA_out (c : Dev nD) : (win0_4.blk (0 : Fin 1)).view.read (Elt F) (finalA m ρ c (4 : Fin 5)) = result (PP m ρ) c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

end Cert.Moe

end
-- ==== Proof.Values.lean ====
/-
# The kernel's result as a formula

What the kernel leaves, entry by entry, over the extended reals: each row's softmax probabilities, kept at the two chosen
experts and divided by their sum, weigh the sixteen experts' products.
-/
module

public import proofs.«01_k».proof.Proof.Contents
public import Idealize.ShloMosaic.Lib.Pointwise

@[expose] public section

set_option maxRecDepth 16384

noncomputable section

namespace Cert.Moe

open Cert.KernelIdeal Cert.KernelIdeal.Gen
open Idealize.ShloMosaic

/-! ## The formula -/

section Formula
variable (x : S1024x256.Idx → EReal) (r : S256x16.Idx → EReal) (i : S1024x2.Idx → BitVec 32)

/-- A row's score at an expert, and the largest of the row. -/
def score (n : Fin 1024) (e : Fin 16) : EReal := ∑ k : Fin 256, x (ix2 n k) * r (ix2 k e)
/-- A row's largest score. -/
def peak (n : Fin 1024) : EReal := Finset.fold max ⊥ (fun e => score x r n e) Finset.univ
/-- The softmax before and after its division. -/
def raised (n : Fin 1024) (e : Fin 16) : EReal := Ideal.exp (score x r n e - peak x r n)
/-- The probability of an expert. -/
def prob (n : Fin 1024) (e : Fin 16) : EReal := Ideal.div (raised x r n e) (∑ e', raised x r n e')
/-- The probabilities of two experts kept, and divided by their sum. -/
def kept (p : Fin 16 → EReal) (a b : BitVec 32) (e : Fin 16) : EReal :=
  if BitVec.ofNat 32 e.val = a ∨ BitVec.ofNat 32 e.val = b then p e else 0
/-- The kept probability over the sum of those kept. -/
def weight (p : Fin 16 → EReal) (a b : BitVec 32) (e : Fin 16) : EReal := Ideal.div (kept p a b e) (∑ e', kept p a b e')
/-- A row's weight at an expert. -/
def share (n : Fin 1024) (e : Fin 16) : EReal := weight (prob x r n) (i (ix2 n 0)) (i (ix2 n 1)) e
end Formula

/-- Expert `q` of device `c` among all. -/
def expert (c : Dev nD) (q : Fin 4) : Fin 16 := ⟨4 * c.val + q.val, by have : c.val < 4 := c.isLt; omega⟩
/-- Row `d` of chunk `j` among all. -/
def row (j : Fin 4) (d : Fin 256) : Fin 1024 := ⟨256 * j.val + d.val, by omega⟩

/-- The word of minus infinity. -/
theorem ninf : Ideal.ofBits .f32 0xFF800000#32 = ⊥ := by simp [Ideal.ofBits, Ideal.ieee]

/-! ## The kernel's values -/

section Reads
variable (x : Vec Ideal S1024x256 .bf16) (r : Vec Ideal S256x16 .bf16) (i : Vec Ideal S1024x2 .i32) (w : Vec Ideal S4x256x512 .bf16) (c : Dev nD)

/-- The kernel's exponentials. -/
theorem raised_read (n : Fin 1024) (e : Fin 16) : k0_pay2 x r (ix2 n e) = raised x r n e := by
  unfold_payloads
  pointwise
  rw [ninf]
  rfl

/-- The kernel's sum of a row's exponentials. -/
theorem sum_read (n : Fin 1024) (e : Fin 16) : k0_pay3 x r (ix2 n e) = ∑ e', raised x r n e' := by
  unfold k0_pay3
  pointwise
  exact Finset.sum_congr rfl fun e' _ => raised_read x r n e'

/-- A one-bit test as a choice. -/
theorem select_eq_or {α : Type} (u a b : BitVec 32) (y z : α) :
    Scalar.select (IntOp.ori (IntOp.cmpi .eq u a) (IntOp.cmpi .eq u b)) y z = if u = a ∨ u = b then y else z := by
  have hc (v : BitVec 32) : IntOp.cmpi .eq u v = if u = v then 1#1 else 0#1 := by
    by_cases h : u = v
    · rw [if_pos h]; subst h; simp [IntOp.cmpi]
    · rw [if_neg h]
      show BitVec.ofBool (u == v) = 0#1
      rw [beq_eq_false_iff_ne.mpr h]; rfl
  rw [hc, hc]
  by_cases ha : u = a
  · by_cases hb : u = b
    · rw [if_pos ha, if_pos hb, if_pos (.inl ha)]; rfl
    · rw [if_pos ha, if_neg hb, if_pos (.inl ha)]; rfl
  · by_cases hb : u = b
    · rw [if_neg ha, if_pos hb, if_pos (.inr hb)]; rfl
    · rw [if_neg ha, if_neg hb, if_neg (by rintro (h | h) <;> contradiction)]; rfl

/-- A device's number as a word. -/
theorem word_eq : word c = BitVec.ofNat 32 c.val := by revert c; decide

/-- The mark of an expert held by the device: one there, zero elsewhere. -/
theorem mark (e : Fin 16) (q : Fin 4) :
    (FloatOps.sitofp .f32 (BitVec.setWidth 32 (IntOp.cmpi .eq (BitVec.ofNat 32 e.val)
      (IntOp.addi (Scalar.muli (word c) 4#32) (BitVec.ofNat 32 q.val)))) : Ideal .f32) = if e = expert c q then 1 else 0 := by
  have hw : IntOp.cmpi .eq (BitVec.ofNat 32 e.val) (IntOp.addi (Scalar.muli (word c) 4#32) (BitVec.ofNat 32 q.val))
      = if e = expert c q then 1#1 else 0#1 := by
    revert c e q; decide
  rw [hw]
  show ((((BitVec.setWidth 32 (if e = expert c q then 1#1 else 0#1)).toInt : ℤ) : ℝ) : EReal) = _
  by_cases h : e = expert c q
  · rw [if_pos h, if_pos h]; norm_num
  · rw [if_neg h, if_neg h]; norm_num

/-- The first column of the route, -/
theorem idx0_read (n : Fin 1024) : idx0 i (ix2 n 0) = i (ix2 n 0) := by
  unfold idx0
  refine congrArg i (funext fun a => Fin.ext ?_)
  match a with
  | ⟨0, _⟩ => show 0 + 1 * n.val = n.val; omega
  | ⟨1, _⟩ => rfl
/-- and the second. -/
theorem idx1_read (n : Fin 1024) : idx1 i (ix2 n 0) = i (ix2 n 1) := by
  unfold idx1
  refine congrArg i (funext fun a => Fin.ext ?_)
  match a with
  | ⟨0, _⟩ => show 0 + 1 * n.val = n.val; omega
  | ⟨1, _⟩ => rfl
/-- An expert's matrix. -/
theorem wslab_read (j : Fin 4) (d : Fin 256) (h : Fin 512) : wslab w j (ix3 0 d h) = w (ix3 j d h) := by
  unfold wslab
  refine congrArg w (funext fun a => Fin.ext ?_)
  match a with
  | ⟨0, _⟩ => exact Nat.add_zero _
  | ⟨1, _⟩ => show 0 + 1 * d.val = d.val; omega
  | ⟨2, _⟩ => show 0 + 1 * h.val = h.val; omega

/-- A device's weight of its own expert `q`. -/
theorem mix_read (n : Fin 1024) (q : Fin 4) : mix x r i c (ix2 n q) = share x r i n (expert c q) := by
  unfold mix k0_pay4
  pointwise
  simp only [select_eq_or, mark, raised_read, sum_read, idx0_read, idx1_read]
  rw [Finset.sum_eq_single (expert c q)]
  · rw [if_pos rfl, mul_one]; rfl
  · intro e _ he; rw [if_neg he, mul_zero]
  · intro h; exact absurd (Finset.mem_univ _) h

/-- The kernel's own spelling of it in its first product. -/
theorem mix_read' (n : Fin 1024) (q : Fin 4) :
    k0_pay4 (word c) (k0_pay2 x r) (k0_pay3 x r) (idx0 i) (idx1 i) (ix2 n q) = share x r i n (expert c q) := mix_read x r i c n q

/-- The products of one row of a chunk with one expert. -/
def product (n : Fin 1024) (q : Fin 4) (h : Fin 512) : EReal :=
  ∑ k : Fin 256, share x r i n (expert c q) * x (ix2 n k) * w (ix3 q k h)

/-- A device's partial result: its four experts' weighted products. -/
theorem part_read (j : Fin 4) (d : Fin 256) (h : Fin 512) :
    part x r i w c j (ix2 d h) = ∑ q : Fin 4, product x r i w c (row j d) q h := by
  rw [Fin.sum_univ_four]
  unfold part flat product
  match j with
  | 0 =>
    unfold chunk k0_pay12 k0_pay11 k0_pay10 k0_pay9 k0_pay8 k0_pay7 k0_pay6 k0_pay5 k0_pay1
    pointwise
    simp only [mix_read, mix_read', wslab_read]
    rw [show row 0 d = ⟨d.val, by omega⟩ from Fin.ext (Nat.zero_add _)]
  | 1 =>
    unfold chunk k0_pay15 k0_pay14 k0_pay13 k0_pay8 k0_pay7 k0_pay6 k0_pay5 k0_pay1
    pointwise
    simp only [mix_read, mix_read', wslab_read]
    rfl
  | 2 =>
    unfold chunk k0_pay16 k0_pay8 k0_pay7 k0_pay6 k0_pay5 k0_pay1
    pointwise
    simp only [mix_read, mix_read', wslab_read]
    rfl
  | 3 =>
    unfold chunk k0_pay20 k0_pay19 k0_pay18 k0_pay17 k0_pay8 k0_pay7 k0_pay6 k0_pay5 k0_pay1
    pointwise
    simp only [mix_read, mix_read', wslab_read]
    rfl

end Reads

section Result
variable (P : Dev nD → Dev nD → S256x512.Idx → Elt Ideal .bf16)

/-- A block's total is the sum of the four partials, in whatever order. -/
theorem total_read (b : Dev nD) (d : Fin 256) (h : Fin 512) : total P b (ix2 d h) = ∑ c : Dev nD, P c b (ix2 d h) := by
  unfold total most k0_pay23 k0_pay22 k0_pay21 slab
  pointwise
  rw [show (Finset.univ : Finset (Dev nD)) = {b, sh 0 b, sh 1 b, sh 2 b} by revert b; decide]
  have h0 := sh_ne b
  have h1 := sh_apart b
  rw [Finset.sum_insert (by simp [(h0 0).symm, (h0 1).symm, (h0 2).symm]), Finset.sum_insert (by simp [h1.1, h1.2.1]),
    Finset.sum_insert (by simp [h1.2.2]), Finset.sum_singleton, add_assoc, add_assoc]
/-- A broadcast block is its total. -/
theorem bcast_read (b : Dev nD) (d : Fin 256) (h : Fin 512) : k0_pay25 (slab (bcast P b)) (ix2 d h) = total P b (ix2 d h) := by
  unfold k0_pay25 slab bcast k0_pay24 total
  pointwise
/-- The result of every device is the sum of the partials. -/
theorem result_read (c : Dev nD) (j : Fin 4) (d : Fin 256) (h : Fin 512) :
    result P c (ix2 (row j d) h) = ∑ b : Dev nD, P b j (ix2 d h) := by
  have hb : blkOf (ix2 (row j d) h) = j := Fin.ext (by show (256 * j.val + d.val) / 256 = j.val; omega)
  have hi : inBlk (ix2 (row j d) h) = ix2 d h := by
    funext a; apply Fin.ext
    match a with
    | ⟨0, _⟩ => show (256 * j.val + d.val) % 256 = d.val; omega
    | ⟨1, _⟩ => rfl
  unfold result rows
  rw [hb, hi]
  rw [← total_read]
  by_cases h' : j = c
  · subst h'; rw [if_pos rfl]
  · rw [if_neg h']; exact bcast_read P j d h

end Result

end Cert.Moe
end
-- ==== Proof.RefValues.lean ====
/-
# The reference's result as a formula

The reference's result, entry by entry, over the extended reals, when every expert number names an expert: two experts'
products of the row, each weighed by its probability over the two probabilities' sum.
-/
module

public import proofs.«01_k».proof.Proof.Values
public import proofs.«01_k».proof.Proof.Gen.ReferenceIdeal.Read

@[expose] public section

set_option maxRecDepth 16384

noncomputable section

namespace Cert.Moe.Ref

open Cert.ReferenceIdeal Cert.ReferenceIdeal.Gen Cert.ReferenceIdeal.Read
open Idealize.ShloMosaic

/-! ## The words of expert numbers -/

/-- An expert's word as a number, and how it compares: not negative, at most 15. -/
theorem toInt_expert (e : Fin 16) : (BitVec.ofNat 32 e.val).toInt = e.val := by revert e; decide
theorem slt_expert (e : Fin 16) : IntOp.cmpi .slt (BitVec.ofNat 32 e.val) 0#32 = 0#1 := by revert e; decide
theorem sge_expert (e : Fin 16) : IntOp.cmpi .sge (BitVec.ofNat 32 e.val) 0#32 = 1#1 := by revert e; decide
theorem sle_expert (e : Fin 16) : IntOp.cmpi .sle (BitVec.ofNat 32 e.val) 15#32 = 1#1 := by revert e; decide

/-! ## The two gathers -/

/-- The probability gather reads its row at the named column. -/
theorem take_read (p : S1024x16.Idx → EReal) (u : S1024x1x1.Idx → BitVec 32) (n : Fin 1024) (e : Fin 16)
    (h : u (ix3 n 0 0) = BitVec.ofNat 32 e.val) :
    Host.gather gather_S1024x16_S1024x1x1_S1024x1_n_1_0_0_1_2_11 p u (ix2 n 0) = p (ix2 n e) := by
  unfold Host.gather
  congr 1
  funext a
  refine Fin.ext ?_
  show GatherDims.start gather_S1024x16_S1024x1x1_S1024x1_n_1_0_0_1_2_11 (ix2 n 0) u a
    + GatherDims.batchCoord gather_S1024x16_S1024x1x1_S1024x1_n_1_0_0_1_2_11 (ix2 n 0) a
    + GatherDims.offCoord gather_S1024x16_S1024x1x1_S1024x1_n_1_0_0_1_2_11 (ix2 n 0) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | 1 =>
    rw [GatherDims.batchCoord_eq_zero _ _ _ (fun h => by simp [gather_S1024x16_S1024x1x1_S1024x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x16_S1024x1x1_S1024x1_n_1_0_0_1_2_11.startIndexMap from List.mem_singleton.mpr rfl)]
    have hs : gather_S1024x16_S1024x1x1_S1024x1_n_1_0_0_1_2_11.siIdx (ix2 n 0)
        ⟨List.idxOf (1 : Fin 2) gather_S1024x16_S1024x1x1_S1024x1_n_1_0_0_1_2_11.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hs, h, toInt_expert]
    show min e.val (16 - 1) = e.val
    omega

/-- The expert gather reads the named expert. -/
theorem pick_read (W : S16x256x512.Idx → EReal) (u : S1024x1.Idx → BitVec 32) (n : Fin 1024) (k : Fin 256) (h : Fin 512) (e : Fin 16)
    (hu : u (ix2 n 0) = BitVec.ofNat 32 e.val) :
    Host.gather gather_S16x256x512_S1024x1_S1024x256x512_12_0_n_n_0_1_1256512 W u (ix3 n k h) = W (ix3 e k h) := by
  unfold Host.gather
  congr 1
  funext a
  refine Fin.ext ?_
  show GatherDims.start gather_S16x256x512_S1024x1_S1024x256x512_12_0_n_n_0_1_1256512 (ix3 n k h) u a
    + GatherDims.batchCoord gather_S16x256x512_S1024x1_S1024x256x512_12_0_n_n_0_1_1256512 (ix3 n k h) a
    + GatherDims.offCoord gather_S16x256x512_S1024x1_S1024x256x512_12_0_n_n_0_1_1256512 (ix3 n k h) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl))]
    rw [Nat.add_zero]
    unfold GatherDims.start
    rw [dif_pos (show (0 : Fin 3) ∈ gather_S16x256x512_S1024x1_S1024x256x512_12_0_n_n_0_1_1256512.startIndexMap from List.mem_singleton.mpr rfl)]
    have hs : gather_S16x256x512_S1024x1_S1024x256x512_12_0_n_n_0_1_1256512.siIdx (ix3 n k h)
        ⟨List.idxOf (0 : Fin 3) gather_S16x256x512_S1024x1_S1024x256x512_12_0_n_n_0_1_1256512.startIndexMap,
          List.idxOf_lt_length_iff.2 (List.mem_singleton.mpr rfl)⟩ = ix2 n 0 := by
      funext b; refine Fin.ext ?_
      match b with
      | ⟨0, _⟩ => rfl
      | ⟨1, _⟩ => rfl
    rw [hs, hu, toInt_expert]
    show min e.val (16 - 1) = e.val
    omega
  | 1 =>
    unfold GatherDims.start
    rw [dif_neg (show (1 : Fin 3) ∉ gather_S16x256x512_S1024x1_S1024x256x512_12_0_n_n_0_1_1256512.startIndexMap by decide)]
    rw [Nat.zero_add]
    rfl
  | 2 =>
    unfold GatherDims.start
    rw [dif_neg (show (2 : Fin 3) ∉ gather_S16x256x512_S1024x1_S1024x256x512_12_0_n_n_0_1_1256512.startIndexMap by decide)]
    rw [Nat.zero_add]
    rfl

variable (x : (⟨S1024x256, .bf16⟩ : BufTy).Contents (Elt Ideal)) (r : (⟨S256x16, .bf16⟩ : BufTy).Contents (Elt Ideal))
  (i : (⟨S1024x2, .i32⟩ : BufTy).Contents (Elt Ideal)) (W : (⟨S16x256x512, .bf16⟩ : BufTy).Contents (Elt Ideal))

/-- The reference's softmax. -/
theorem prob_read (n : Fin 1024) (e : Fin 16) : val_main_v12 (F := Ideal) x r (ix2 n e) = prob x r n e := by
  pointwise [val_main_v12, val_main_v11, val_main_v10, val_main_v9, val_main_cst_0, val_main_v8, val_main_v7, val_main_v6, val_main_v5,
    val_main_v4, val_main_cst, val_main_v3, val_main_v1, val_main_v0]
  rw [ninf]
  rfl

/-! ## The first chosen expert -/

/-- Where the first gather of probabilities starts: no wrapping for an index that names an expert. -/
theorem start0_read (n : Fin 1024) (e : Fin 16) (h : i (ix2 n 0) = BitVec.ofNat 32 e.val) :
    val_main_call0_v5 (F := Ideal) i (ix3 n 0 0) = BitVec.ofNat 32 e.val := by
  pointwise [val_main_call0_v5, val_main_call0_v4, val_main_call0_v3, val_main_call0_v2, val_main_call0_v1, val_main_call0_v0,
    val_main_call0_c, val_main_call0_c_0, val_main_v17, val_main_v14, val_main_v13]
  rw [h, slt_expert]
  rfl
/-- The first gather is inside its array. -/
theorem inside0_read (n : Fin 1024) (e : Fin 16) (h : i (ix2 n 0) = BitVec.ofNat 32 e.val) :
    val_main_call0_v12 (F := Ideal) i (ix2 n 0) = 1#1 := by
  pointwise [val_main_call0_v12, val_main_call0_v11, val_main_call0_v10, val_main_call0_v9, val_main_call0_v8, val_main_call0_v7, val_main_call0_v6,
    val_main_call0_c_1, val_main_call0_c_2, val_main_call0_c_3]
  rw [Finset.univ_unique, Finset.fold_singleton]
  show IntOp.andi (IntOp.andi (IntOp.cmpi .sge (val_main_call0_v5 (F := Ideal) i (ix3 n 0 0)) 0#32)
    (IntOp.cmpi .sle (val_main_call0_v5 (F := Ideal) i (ix3 n 0 0)) 15#32)) 1#1 = 1#1
  rw [start0_read i n e h, sge_expert, sle_expert]
  rfl
/-- A row's first chosen probability. -/
theorem first_read (n : Fin 1024) (e : Fin 16) (h : i (ix2 n 0) = BitVec.ofNat 32 e.val) :
    val_main_v18 (F := Ideal) x r i (ix2 n 0) = prob x r n e := by
  pointwise [val_main_v18]
  rw [inside0_read i n e h]
  show val_main_call0_v13 (F := Ideal) x r i (ix2 n 0) = _
  unfold val_main_call0_v13
  rw [take_read _ _ n e (start0_read i n e h), prob_read]
/-- Where the first gather of experts starts. -/
theorem row0_read (n : Fin 1024) (e : Fin 16) (h : i (ix2 n 0) = BitVec.ofNat 32 e.val) :
    val_main_v27 (F := Ideal) i (ix2 n 0) = BitVec.ofNat 32 e.val := by
  pointwise [val_main_v27, val_main_v26, val_main_v25, val_main_v24, val_main_v23, val_main_v22, val_main_c, val_main_c_1, val_main_v14, val_main_v13]
  rw [h, slt_expert]
  rfl
/-- A row's product with its first expert. -/
theorem prod0_read (n : Fin 1024) (e : Fin 16) (l : Fin 512) (h : i (ix2 n 0) = BitVec.ofNat 32 e.val) :
    val_main_v29 (F := Ideal) x i W (ix2 n l) = ∑ k : Fin 256, x (ix2 n k) * W (ix3 e k l) := by
  pointwise [val_main_v29, val_main_v28, val_main_v0]
  refine Finset.sum_congr rfl fun k _ => ?_
  rw [pick_read _ _ n k l e (row0_read i n e h)]
  pointwise [val_main_v2]

/-! ## The second chosen expert -/

/-- Where the second gather of probabilities starts. -/
theorem start1_read (n : Fin 1024) (e : Fin 16) (h : i (ix2 n 1) = BitVec.ofNat 32 e.val) :
    val_main_call1_v5 (F := Ideal) i (ix3 n 0 0) = BitVec.ofNat 32 e.val := by
  pointwise [val_main_call1_v5, val_main_call1_v4, val_main_call1_v3, val_main_call1_v2, val_main_call1_v1, val_main_call1_v0,
    val_main_call1_c, val_main_call1_c_0, val_main_v19, val_main_v16, val_main_v15]
  rw [h, slt_expert]
  rfl
/-- The second gather is inside its array. -/
theorem inside1_read (n : Fin 1024) (e : Fin 16) (h : i (ix2 n 1) = BitVec.ofNat 32 e.val) :
    val_main_call1_v12 (F := Ideal) i (ix2 n 0) = 1#1 := by
  pointwise [val_main_call1_v12, val_main_call1_v11, val_main_call1_v10, val_main_call1_v9, val_main_call1_v8, val_main_call1_v7, val_main_call1_v6,
    val_main_call1_c_1, val_main_call1_c_2, val_main_call1_c_3]
  rw [Finset.univ_unique, Finset.fold_singleton]
  show IntOp.andi (IntOp.andi (IntOp.cmpi .sge (val_main_call1_v5 (F := Ideal) i (ix3 n 0 0)) 0#32)
    (IntOp.cmpi .sle (val_main_call1_v5 (F := Ideal) i (ix3 n 0 0)) 15#32)) 1#1 = 1#1
  rw [start1_read i n e h, sge_expert, sle_expert]
  rfl
/-- A row's second chosen probability. -/
theorem second_read (n : Fin 1024) (e : Fin 16) (h : i (ix2 n 1) = BitVec.ofNat 32 e.val) :
    val_main_v20 (F := Ideal) x r i (ix2 n 0) = prob x r n e := by
  pointwise [val_main_v20]
  rw [inside1_read i n e h]
  show val_main_call1_v13 (F := Ideal) x r i (ix2 n 0) = _
  unfold val_main_call1_v13
  rw [take_read _ _ n e (start1_read i n e h), prob_read]
/-- Where the second gather of experts starts. -/
theorem row1_read (n : Fin 1024) (e : Fin 16) (h : i (ix2 n 1) = BitVec.ofNat 32 e.val) :
    val_main_v35 (F := Ideal) i (ix2 n 0) = BitVec.ofNat 32 e.val := by
  pointwise [val_main_v35, val_main_v34, val_main_v33, val_main_v32, val_main_v31, val_main_v30, val_main_c_2, val_main_c_3, val_main_v16, val_main_v15]
  rw [h, slt_expert]
  rfl
/-- A row's product with its second expert. -/
theorem prod1_read (n : Fin 1024) (e : Fin 16) (l : Fin 512) (h : i (ix2 n 1) = BitVec.ofNat 32 e.val) :
    val_main_v37 (F := Ideal) x i W (ix2 n l) = ∑ k : Fin 256, x (ix2 n k) * W (ix3 e k l) := by
  pointwise [val_main_v37, val_main_v36, val_main_v0]
  refine Finset.sum_congr rfl fun k _ => ?_
  rw [pick_read _ _ n k l e (row1_read i n e h)]
  pointwise [val_main_v2]

/-! ## The result -/

/-- The reference's result, entry by entry. -/
theorem res_read (n : Fin 1024) (l : Fin 512) (e e' : Fin 16) (h : i (ix2 n 0) = BitVec.ofNat 32 e.val) (h' : i (ix2 n 1) = BitVec.ofNat 32 e'.val) :
    val_main_v44 (F := Ideal) x r i W (ix2 n l)
      = Ideal.div (prob x r n e) (prob x r n e + prob x r n e') * (∑ k : Fin 256, x (ix2 n k) * W (ix3 e k l))
        + Ideal.div (prob x r n e') (prob x r n e + prob x r n e') * (∑ k : Fin 256, x (ix2 n k) * W (ix3 e' k l)) := by
  pointwise [val_main_v44, val_main_v43, val_main_v42, val_main_v41, val_main_v40, val_main_v39, val_main_v38, val_main_v21]
  rw [first_read x r i n e h, second_read x r i n e' h', prod0_read x i W n e l h, prod1_read x i W n e' l h']

end Cert.Moe.Ref
end
-- ==== Proof.Agree.lean ====
/-
# The two formulas agree

Finite tokens and router weights make every probability a positive real, so both programs divide by positive reals: a row's
weights are the two chosen probabilities over their sum, and zero at every other expert. Expert weights may be infinite:
a nonnegative real factor still distributes over their sums.
-/
module

public import proofs.«01_k».proof.Proof.RefValues
public import Idealize.ShloMosaic.Lib.ReduceAll
public import Idealize.ShloMosaic.Lib.WordCmp
public import Idealize.ShloMosaic.Lib.Layout
public import proofs.«01_k».proof.Pre_routable_KernelIdeal

@[expose] public section

set_option maxRecDepth 16384

noncomputable section

namespace Cert.Moe

open Cert.KernelIdeal
open Idealize.ShloMosaic

/-! ## Reals among the extended reals -/

/-- A sum of reals, taken among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A nonnegative real factor distributes over a sum, infinite terms or not. -/
theorem factor_sum {ι : Type} (s : Finset ι) (a : ℝ) (ha : 0 ≤ a) (f : ι → EReal) : ∑ k ∈ s, (a : EReal) * f k = a * ∑ k ∈ s, f k := by
  classical
  induction s using Finset.induction_on with
  | empty => simp
  | insert b s hb ih =>
    rw [Finset.sum_insert hb, Finset.sum_insert hb, ih,
      EReal.left_distrib_of_nonneg_of_ne_top (EReal.coe_nonneg.mpr ha) (EReal.coe_ne_top a)]

/-- A quotient of reals, taken among the extended reals. -/
theorem div_real (a b : ℝ) (hb : b ≠ 0) : Ideal.div (a : EReal) b = ((a / b : ℝ) : EReal) := by
  rw [Ideal.div_coe hb, ← EReal.coe_mul, mul_one_div]

/-- An extended real below plus infinity in size is a real. -/
theorem real_of_size (y : EReal) (h : max y (-y) < ⊤) : ∃ a : ℝ, y = a := by
  induction y with
  | bot => simp at h
  | top => simp at h
  | coe a => exact ⟨a, rfl⟩

/-! ## Positive probabilities -/

section Probabilities
variable (x : S1024x256.Idx → EReal) (r : S256x16.Idx → EReal)

/-- With finite tokens and router every probability is a positive real. -/
theorem prob_pos (hx : ∀ j, ∃ a : ℝ, x j = a) (hr : ∀ j, ∃ a : ℝ, r j = a) (n : Fin 1024) :
    ∃ q : Fin 16 → ℝ, (∀ e, 0 < q e) ∧ ∀ e, prob x r n e = (q e : EReal) := by
  choose x' hx' using hx
  choose r' hr' using hr
  have hs (e : Fin 16) : score x r n e = ((∑ k : Fin 256, x' (ix2 n k) * r' (ix2 k e) : ℝ) : EReal) := by
    unfold score
    rw [← coe_sum]
    refine Finset.sum_congr rfl fun k _ => ?_
    rw [hx', hr', EReal.coe_mul]
  obtain ⟨b, -, hb⟩ := Finset.exists_mem_eq_sup (Finset.univ : Finset (Fin 16)) ⟨0, Finset.mem_univ _⟩ (fun e => score x r n e)
  have hp : peak x r n = score x r n b := hb
  have hu (e : Fin 16) : ∃ a : ℝ, 0 < a ∧ raised x r n e = (a : EReal) := by
    refine ⟨Real.exp (∑ k : Fin 256, x' (ix2 n k) * r' (ix2 k e) - ∑ k : Fin 256, x' (ix2 n k) * r' (ix2 k b)), Real.exp_pos _, ?_⟩
    unfold raised
    rw [hp, hs, hs, ← EReal.coe_sub]
    exact Ideal.exp_coe _
  choose u hu0 hu1 using hu
  have hz : 0 < ∑ e, u e := Finset.sum_pos (fun e _ => hu0 e) ⟨0, Finset.mem_univ _⟩
  refine ⟨fun e => u e / ∑ e', u e', fun e => div_pos (hu0 e) hz, fun e => ?_⟩
  unfold prob
  rw [Finset.sum_congr rfl fun e' _ => hu1 e', hu1, coe_sum, div_real _ _ hz.ne']
end Probabilities

/-! ## The weights -/

/-- Two experts' words are equal only if the experts are. -/
theorem word_inj (e f : Fin 16) : BitVec.ofNat 32 e.val = BitVec.ofNat 32 f.val ↔ e = f := by revert e f; decide

section Weights
variable (p : Fin 16 → EReal) (q : Fin 16 → ℝ) (hq : ∀ e, 0 < q e) (hp : ∀ e, p e = (q e : EReal)) (f g : Fin 16) (T : Fin 16 → EReal)

/-- The kept probability, told by experts and not by words. -/
theorem kept_eq (e : Fin 16) : kept p (BitVec.ofNat 32 f.val) (BitVec.ofNat 32 g.val) e = if e = f ∨ e = g then p e else 0 := by
  unfold kept
  simp only [word_inj]

include hq hp in
/-- Every expert's product weighed and summed is the two chosen ones' products, weighed as the reference does. -/
theorem weighed_sum (S : Fin 16 → EReal) :
    ∑ e, weight p (BitVec.ofNat 32 f.val) (BitVec.ofNat 32 g.val) e * S e
      = Ideal.div (p f) (p f + p g) * S f + Ideal.div (p g) (p f + p g) * S g := by
  have hf := hq f
  have hg := hq g
  have hsum : p f + p g = ((q f + q g : ℝ) : EReal) := by rw [hp, hp, EReal.coe_add]
  by_cases hfg : f = g
  · subst hfg
    have hk : ∑ e, kept p (BitVec.ofNat 32 f.val) (BitVec.ofNat 32 f.val) e = p f := by
      rw [Finset.sum_eq_single f]
      · rw [kept_eq, if_pos (.inl rfl)]
      · intro e _ he; rw [kept_eq, if_neg (by tauto)]
      · intro h; exact absurd (Finset.mem_univ _) h
    rw [Finset.sum_eq_single f]
    · unfold weight
      rw [hk, kept_eq, if_pos (.inl rfl), hsum, hp, div_real _ _ hf.ne', div_real _ _ (by linarith), div_self hf.ne',
        ← EReal.right_distrib_of_nonneg (EReal.coe_nonneg.mpr (div_nonneg hf.le (by linarith))) (EReal.coe_nonneg.mpr (div_nonneg hf.le (by linarith))),
        ← EReal.coe_add, ← add_div, div_self (by linarith)]
    · intro e _ he
      unfold weight
      rw [hk, kept_eq, if_neg (by tauto), hp, ← EReal.coe_zero, div_real _ _ hf.ne', zero_div, EReal.coe_zero, zero_mul]
    · intro h; exact absurd (Finset.mem_univ _) h
  · have hk : ∑ e, kept p (BitVec.ofNat 32 f.val) (BitVec.ofNat 32 g.val) e = p f + p g := by
      rw [Finset.sum_eq_add f g hfg]
      · rw [kept_eq, kept_eq, if_pos (.inl rfl), if_pos (.inr rfl)]
      · intro e _ he; rw [kept_eq, if_neg (by tauto)]
      · intro h; exact absurd (Finset.mem_univ _) h
      · intro h; exact absurd (Finset.mem_univ _) h
    rw [Finset.sum_eq_add f g hfg]
    · unfold weight
      rw [hk, kept_eq, kept_eq, if_pos (.inl rfl), if_pos (.inr rfl)]
    · intro e _ he
      unfold weight
      rw [hk, kept_eq, if_neg (by tauto), hsum, ← EReal.coe_zero, div_real _ _ (by linarith), zero_div, EReal.coe_zero, zero_mul]
    · intro h; exact absurd (Finset.mem_univ _) h
    · intro h; exact absurd (Finset.mem_univ _) h

include hq hp in
/-- A row's weight at an expert is a real at least zero. -/
theorem weight_real (e : Fin 16) : ∃ a : ℝ, 0 ≤ a ∧ weight p (BitVec.ofNat 32 f.val) (BitVec.ofNat 32 g.val) e = (a : EReal) := by
  have hk (e : Fin 16) : kept p (BitVec.ofNat 32 f.val) (BitVec.ofNat 32 g.val) e = ((if e = f ∨ e = g then q e else 0 : ℝ) : EReal) := by
    rw [kept_eq]; split
    · exact hp e
    · exact EReal.coe_zero.symm
  have h0 (e : Fin 16) : (0 : ℝ) ≤ if e = f ∨ e = g then q e else 0 := by
    split
    · exact (hq e).le
    · exact le_refl 0
  have hz : (0 : ℝ) < ∑ e, if e = f ∨ e = g then q e else 0 :=
    Finset.sum_pos' (fun e _ => h0 e) ⟨f, Finset.mem_univ _, by rw [if_pos (.inl rfl)]; exact hq f⟩
  refine ⟨_, div_nonneg (h0 e) hz.le, ?_⟩
  unfold weight
  rw [Finset.sum_congr rfl fun e' _ => hk e', hk, coe_sum, div_real _ _ hz.ne']
end Weights

/-! ## The two results -/

/-- Every expert is held by one device, at one place. -/
theorem expert_bijective : Function.Bijective (fun p : Dev nD × Fin 4 => expert p.1 p.2) := by decide

/-- A sum over the devices' experts is the sum over all sixteen. -/
theorem sum_experts (T : Fin 16 → EReal) : ∑ c : Dev nD, ∑ q : Fin 4, T (expert c q) = ∑ e, T e := by
  rw [← Fintype.sum_prod_type' (f := fun c q => T (expert c q))]
  exact expert_bijective.sum_comp T

/-- A row is row `d` of block `j`. -/
theorem index_split (n : Fin 1024) : ∃ (j : Fin 4) (d : Fin 256), n = row j d :=
  ⟨⟨n.val / 256, by omega⟩, ⟨n.val % 256, by omega⟩, Fin.ext (by show n.val = 256 * (n.val / 256) + n.val % 256; omega)⟩

section Results
variable (x : Vec Ideal S1024x256 .bf16) (r : Vec Ideal S256x16 .bf16) (i : Vec Ideal S1024x2 .i32)
  (W : Cert.ReferenceIdeal.S16x256x512.Idx → EReal)

/-- The block of the experts a device holds. -/
def held16 (c : Dev nD) : Vec Ideal S4x256x512 .bf16 := Layout.block ⟨3, ![4, 256, 512]⟩ ⟨3, ![16, 256, 512]⟩ 0 4 c W

/-- A device's experts are its four of the sixteen. -/
theorem held16_read (c : Dev nD) (q : Fin 4) (k : Fin 256) (l : Fin 512) : held16 W c (ix3 q k l) = W (ix3 (expert c q) k l) := by
  unfold held16
  rw [Layout.block_apply]
  refine congrArg W (funext fun a => Fin.ext ?_)
  match a with
  | ⟨0, _⟩ => show c.val * 4 + q.val = 4 * c.val + q.val; omega
  | ⟨1, _⟩ => rfl
  | ⟨2, _⟩ => rfl

/-- With finite tokens and router weights and expert numbers that name experts, the kernel's result on every device is the
    reference's. -/
theorem results_agree (hx : ∀ j, ∃ a : ℝ, x j = a) (hr : ∀ j, ∃ a : ℝ, r j = a)
    (hi : ∀ j, ∃ e : Fin 16, i j = BitVec.ofNat 32 e.val) (c : Dev nD) :
    result (fun b j => part x r i (held16 W b) b j) c = Cert.ReferenceIdeal.Read.val_main_v44 (F := Ideal) x r i W := by
  suffices key : ∀ (n : Fin 1024) (l : Fin 512), result (fun b j => part x r i (held16 W b) b j) c (ix2 n l)
      = Cert.ReferenceIdeal.Read.val_main_v44 (F := Ideal) x r i W (ix2 n l) by
    funext t
    rw [eq_ix2 t]
    exact key _ _
  intro n l
  obtain ⟨j, d, hn⟩ := index_split n
  obtain ⟨f, hf⟩ := hi (ix2 n 0)
  obtain ⟨g, hg⟩ := hi (ix2 n 1)
  obtain ⟨q, hq, hp⟩ := prob_pos x r hx hr n
  rw [Ref.res_read x r i W n l f g hf hg, ← weighed_sum (prob x r n) q hq hp f g (fun e => ∑ k : Fin 256, x (ix2 n k) * W (ix3 e k l))]
  subst hn
  rw [result_read]
  rw [← sum_experts]
  refine Finset.sum_congr rfl fun b _ => ?_
  rw [part_read]
  refine Finset.sum_congr rfl fun e _ => ?_
  obtain ⟨a, ha, hw⟩ := weight_real (prob x r (row j d)) q hq hp f g (expert b e)
  unfold product share
  rw [hf, hg, hw, ← factor_sum _ a ha]
  refine Finset.sum_congr rfl fun k _ => ?_
  rw [held16_read, mul_assoc]
end Results

/-! ## The precondition read -/

section Pre

/-- The side conditions of the precondition as stated for the kernel. -/
instance routable_facts : Cert.Pre_routable_KernelIdeal.Facts where
  bcast_S_S1024x2 := by decide
  reducesTo_S1024x2_S_d0_1 := by decide
  h_S_ := by decide
  bcast_S_S1024x256 := by decide
  reducesTo_S1024x256_S_d0_1 := by decide
  bcast_S_S256x16 := by decide
  reducesTo_S256x16_S_d0_1 := by decide

/-- The word of plus infinity. -/
theorem pinf : Ideal.ofBits .bf16 0x7F80#16 = ⊤ := by simp [Ideal.ofBits, Ideal.ieee]

/-- What passes the finiteness test is a real. -/
theorem real_of_test (y : EReal) (h : FloatOps.cmpf (F := Ideal) (φ := .bf16) .olt (FloatOps.hostAbsf y) (FloatOps.ofBits .bf16 0x7F80#16) = 1#1) :
    ∃ a : ℝ, y = a := by
  refine real_of_size y ?_
  have h' : Ideal.cmp .olt (max y (-y)) (Ideal.ofBits .bf16 0x7F80#16) = 1#1 := h
  rw [pinf] at h'
  unfold Ideal.cmp at h'
  by_contra hn
  simp [hn] at h'

/-- A word from 0 to 15 names an expert. -/
theorem expert_of_range (u : BitVec 32) (h0 : 0 ≤ u.toInt) (h1 : u.toInt < 16) : ∃ e : Fin 16, u = BitVec.ofNat 32 e.val := by
  have hu : u.toInt = u.toNat := by
    rw [BitVec.toInt_eq_toNat_cond] at h0 ⊢
    split
    · rfl
    · have := u.isLt; split at h0 <;> omega
  refine ⟨⟨u.toNat, by omega⟩, ?_⟩
  simp

instance : Subsingleton Cert.Pre_routable_KernelIdeal.S_.Idx := ⟨fun a b => funext fun k => k.elim0⟩

/-- Both halves of a conjunction that holds. -/
theorem and_bits (a b : BitVec 1) (h : IntOp.andi a b = 1#1) : a = 1#1 ∧ b = 1#1 := by
  revert a b; decide

/-- What the precondition says of a device's arrays. -/
theorem routable_read (x : FVec Ideal S1024x256 .bf16) (r : FVec Ideal S256x16 .bf16) (i : IVec S1024x2 32) (w : FVec Ideal S4x256x512 .bf16)
    (h : Cert.Pre_routable_KernelIdeal.fn (F := Ideal) x r i w = fun _ => 1#1) :
    (∀ j, ∃ a : ℝ, x j = a) ∧ (∀ j, ∃ a : ℝ, r j = a) ∧ ∀ j, ∃ e : Fin 16, i j = BitVec.ofNat 32 e.val := by
  have h := congrFun h (fun a => a.elim0)
  obtain ⟨h12, h3⟩ := and_bits _ _ h
  obtain ⟨h1, h2⟩ := and_bits _ _ h12
  refine ⟨fun j => real_of_test _ (Host.reduce_andi_all _ _ _ _ _ h2 j), fun j => real_of_test _ (Host.reduce_andi_all _ _ _ _ _ h3 j), fun j => ?_⟩
  obtain ⟨ha, hb⟩ := and_bits _ _ (Host.reduce_andi_all _ _ _ _ _ h1 j)
  exact expert_of_range (i j) (IntOp.cmpi_sge.1 ha) (IntOp.cmpi_slt.1 hb)
end Pre

end Cert.Moe
end
-- ==== Proof.lean ====
/-
# The certificate

Both programs run and end with their arguments as they were and every semaphore at zero, and the kernel's result on every
device is the reference's.
-/
module

public import proofs.«01_k».proof.Proof.Launch
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Defs
public import Idealize.ShloMosaic.Adequacy
public import Idealize.ShloMosaic.Init

@[expose] public section

set_option maxRecDepth 16384

noncomputable section

namespace Cert.Proof

open Cert.KernelIdeal Cert.KernelIdeal.Gen Cert.Moe
open Idealize.ShloMosaic
open Idealize.ShloMosaic.TcCoe
open Idealize.SL.Sem

/-! ## Frames -/

/-- After a run of the kernel a device's four arrays are what they were. -/
theorem unchanged {F : FTy → Type} [FloatOps F] (m : (ℓ : Loc nD τ sig) → Buf (Elt F) ℓ) (ρ : Dev nD → PrngReg)
    (r : _) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (finalA_in m ρ c 0 (by decide)), (h c (1 : Fin 5)).trans (finalA_in m ρ c 1 (by decide)),
    (h c (2 : Fin 5)).trans (finalA_in m ρ c 2 (by decide)), (h c (3 : Fin 5)).trans (finalA_in m ρ c 3 (by decide))⟩

/-- The kernel ends with its arrays as they were and its semaphores at zero, whatever its numbers are. -/
theorem frame_any {F : FTy → Type} [FloatOps F] (m : (ℓ : Loc nD τ sig) → Buf (Elt F) ℓ) (ρ : Dev nD → PrngReg) :
    θ_run (Cert.KernelIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (Cert.KernelIdeal.defs (F := F)) _ _).mono (fun r h => ⟨fun c => unchanged m ρ r h.1 c, h.2⟩) (run_main m ρ)

/-- The idealized text is the same text: no rewrite was offered, so the two tables of bodies are one. -/
theorem bodies_same {F : FTy → Type} [FloatOps F] : Cert.Kernel.defs₀ (F := F) = Cert.KernelIdeal.defs₀ (F := F) := by
  refine congrArg Defs.onTc (funext fun l => funext fun a => ?_)
  obtain ⟨k, hk⟩ := l
  cases k with
  | zero => rfl
  | succ k => exact absurd hk (Nat.not_lt.2 (Nat.le_add_left _ _))

/-- So are the whole tables, the pipeline's entries among them. -/
theorem table_same {F : FTy → Type} [FloatOps F] : Cert.Kernel.defs (F := F) = Cert.KernelIdeal.defs (F := F) := by
  show Pipeline.defs Cert.Kernel.pcfgs Cert.Kernel.defs₀ = Pipeline.defs Cert.KernelIdeal.pcfgs Cert.KernelIdeal.defs₀
  rw [bodies_same]
  rfl

/-- The frame on machine words. -/
theorem frame_kernel : Cert.quiescent_Kernel (hKernel := Cert.Kernel.Gen.facts) := fun m ρ _ => by
  rw [table_same]
  exact frame_any (F := Bits) m ρ

/-- The frame over the extended reals. -/
theorem frame_ideal : Cert.quiescent_KernelIdeal (hKernelIdeal := Cert.KernelIdeal.Gen.facts) := fun m ρ _ =>
  frame_any (F := Ideal) m ρ

/-- The reference's frame. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The side conditions of the precondition as stated for the reference. -/
instance reference_routable_facts : Cert.Pre_routable_ReferenceIdeal.Facts where
  bcast_S_S1024x2 := by decide
  reducesTo_S1024x2_S_d0_1 := by decide
  h_S_ := by decide
  bcast_S_S1024x256 := by decide
  reducesTo_S1024x256_S_d0_1 := by decide
  bcast_S_S256x16 := by decide
  reducesTo_S256x16_S_d0_1 := by decide

/-! ## The value -/

section Value
variable (m : (ℓ : Loc nD τ sig) → Buf (Elt Ideal) ℓ) (ρ : Dev nD → PrngReg)

/-- The one block of each input array is the array: the tokens, -/
theorem xs_eq (c : Dev nD) : xs m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
/-- the router, -/
theorem rs_eq (c : Dev nD) : rs m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
/-- the route, -/
theorem is_eq (c : Dev nD) : is m ρ c = m ((c.tc : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _
/-- and the device's four experts. -/
theorem ws_eq (c : Dev nD) : ws m ρ c = m ((c.tc : Thread nD τ).loc main_arg3) := by
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide) _

/-- The result array of a device after the run. -/
theorem result_left (c : Dev nD) : finalA m ρ c (4 : Fin 5) = result (PP m ρ) c := by
  have hz : (fun a => (win0_4.index (0 : Fin 1)) a * main_v1.ty.shape.size a) = fun _ => 0 :=
    funext fun a => by fin_cases a <;> decide
  exact (Memref.read_access_unit_zero (Elt Ideal) main_v1 hz (fun a => by fin_cases a <;> decide) _).symm.trans (finalA_out m ρ c)
end Value

/-- Over the extended reals every device ends with the reference's result. -/
theorem algebraic : Cert.algebraic_KernelIdeal_ReferenceIdeal_pre_routable_KernelIdeal (hKernelIdeal := Cert.KernelIdeal.Gen.facts)
    (hReferenceIdeal := Cert.ReferenceIdeal.Gen.facts) (hPre_routable_KernelIdeal := routable_facts) := by
  intro m ρ m' ρ' hpre hm
  refine ⟨Cert.ReferenceIdeal.Value.res_main_v44 m' 0, ?_, ?_⟩
  · refine (θ_run Cert.KernelIdeal.defs _ _).mono (fun r h c => ⟨?_, unchanged m ρ r h.1 c⟩) (run_main (F := Ideal) m ρ)
    refine (h.1 c (4 : Fin 5)).trans ((result_left m ρ c).trans ?_)
    obtain ⟨hx, hr, hi⟩ := routable_read _ _ _ _ (hpre c)
    rw [(hm c).1] at hx
    rw [(hm c).2.1] at hr
    rw [(hm c).2.2.1] at hi
    rw [Cert.ReferenceIdeal.Read.val_main_v44_eq, ← results_agree _ _ _ _ hx hr hi c]
    refine congrArg (fun P => result P c) (funext fun b => funext fun j => ?_)
    show part (xs m ρ b) (rs m ρ b) (is m ρ b) (ws m ρ b) b j = _
    rw [xs_eq, rs_eq, is_eq, ws_eq, (hm b).1, (hm b).2.1, (hm b).2.2.1, (hm b).2.2.2]
    rfl
  · refine (θ_run Cert.ReferenceIdeal.defs _ _).mono (fun r h => h 0) (Cert.ReferenceIdeal.Value.run (F := Ideal) m' ρ')

/-- Every claim of this kernel. -/
theorem claim : Cert.Claim :=
  ⟨Cert.Kernel.Gen.facts, Cert.KernelIdeal.Gen.facts, Cert.ReferenceIdeal.Gen.facts, routable_facts, reference_routable_facts,
    frame_kernel, frame_ideal, fun m ρ _ => frame_ideal m ρ trivial, frame_reference, fun m ρ _ => frame_reference m ρ trivial, trivial,
    algebraic⟩

end Cert.Proof

end
